-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S32768x128 : Shape := ⟨2, ![32768, 128]⟩
abbrev S2048x128 : Shape := ⟨2, ![2048, 128]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32768x128 .f32) (main_arg1 : FVec F S2048x128 .f32) (main_arg2 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 32 := constantI S_ 32 2048#32
  let main_v2 : IVec S32768 32 := broadcastInDim S32768 ![] bcast_S_S32768 main_c_0
  let main_v3 : IVec S32768 1 := cmpi .slt main_arg2 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Kernel.lean ====
abbrev S32768x128 : Shape := ⟨2, ![32768, 128]⟩
abbrev S2048x128 : Shape := ⟨2, ![2048, 128]⟩
abbrev S32768 : Shape := ⟨1, ![32768]⟩
abbrev S256x128 : Shape := ⟨2, ![256, 128]⟩
abbrev S8x128 : Shape := ⟨2, ![8, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S1x16 : Shape := ⟨2, ![1, 16]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S32768x128, .f32⟩
  | .hbm, ⟨1, _⟩ => ⟨S2048x128, .f32⟩
  | .hbm, ⟨2, _⟩ => ⟨S32768, .i32⟩
  | .hbm, ⟨3, _⟩ => ⟨S256x128, .i32⟩
  | .hbm, ⟨4, _⟩ => ⟨S32768x128, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | _, _ => ⟨S32768x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32_98_r0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v4 : BitVec 32 := Scalar.addi v2 c0_i32
  let c0_i32_98_r1 : BitVec 32 := 0#32
  ![v4.toNat, 0]
@[reducible] def k0_t1_loop : Scf.Loop 32 :=
  let c0_i32_9 : BitVec 32 := 0#32
  let c128_i32 : BitVec 32 := 128#32
  let v11 : BitVec 32 := Scalar.addi c0_i32_9 c128_i32
  let c1_i32 : BitVec 32 := 1#32
  ⟨c0_i32_9, v11, c1_i32⟩
def k0_off3 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v68 : Index := Scalar.indexCast arg10
  let c0 : Index := 0#32
  ![v68.toNat, 0]
def k0_off4 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v79 : Index := Scalar.indexCast arg10
  let c16 : Index := 16#32
  ![v79.toNat, 16]
def k0_off5 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v90 : Index := Scalar.indexCast arg10
  let c32 : Index := 32#32
  ![v90.toNat, 32]
def k0_off6 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v101 : Index := Scalar.indexCast arg10
  let c48 : Index := 48#32
  ![v101.toNat, 48]
def k0_off7 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v112 : Index := Scalar.indexCast arg10
  let c64 : Index := 64#32
  ![v112.toNat, 64]
def k0_off8 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v123 : Index := Scalar.indexCast arg10
  let c80 : Index := 80#32
  ![v123.toNat, 80]
def k0_off9 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v134 : Index := Scalar.indexCast arg10
  let c96 : Index := 96#32
  ![v134.toNat, 96]
def k0_off10 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let v145 : Index := Scalar.indexCast arg10
  let c112 : Index := 112#32
  ![v145.toNat, 112]
@[reducible] def k0_t2_loop : Scf.Loop 32 :=
  let c0_i32_21 : BitVec 32 := 0#32
  let c128_i32_22 : BitVec 32 := 128#32
  let v19 : BitVec 32 := Scalar.addi c0_i32_21 c128_i32_22
  let c1_i32_23 : BitVec 32 := 1#32
  ⟨c0_i32_21, v19, c1_i32_23⟩
def k0_off11 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v68 : Index := Scalar.indexCast arg10
  let c0 : Index := 0#32
  ![v68.toNat, 0]
def k0_off12 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v79 : Index := Scalar.indexCast arg10
  let c16 : Index := 16#32
  ![v79.toNat, 16]
def k0_off13 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v90 : Index := Scalar.indexCast arg10
  let c32 : Index := 32#32
  ![v90.toNat, 32]
def k0_off14 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v101 : Index := Scalar.indexCast arg10
  let c48 : Index := 48#32
  ![v101.toNat, 48]
def k0_off15 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v112 : Index := Scalar.indexCast arg10
  let c64 : Index := 64#32
  ![v112.toNat, 64]
def k0_off16 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v123 : Index := Scalar.indexCast arg10
  let c80 : Index := 80#32
  ![v123.toNat, 80]
def k0_off17 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v134 : Index := Scalar.indexCast arg10
  let c96 : Index := 96#32
  ![v134.toNat, 96]
def k0_off18 (k0_t2 : Fin k0_t2_loop.trips) : Fin 2 → Nat :=
  let c0_i32_21 : BitVec 32 := 0#32
  let c1_i32_23 : BitVec 32 := 1#32
  let arg10 : BitVec 32 := Scf.iv c0_i32_21 c1_i32_23 k0_t2
  let v145 : Index := Scalar.indexCast arg10
  let c112 : Index := 112#32
  ![v145.toNat, 112]
@[reducible] def k0_t3_loop : Scf.Loop 32 :=
  let c0_i32_34 : BitVec 32 := 0#32
  let c128_i32_35 : BitVec 32 := 128#32
  let v27 : BitVec 32 := Scalar.addi c0_i32_34 c128_i32_35
  let c1_i32_36 : BitVec 32 := 1#32
  ⟨c0_i32_34, v27, c1_i32_36⟩
def k0_off19 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v68 : Index := Scalar.indexCast arg10
  let c0 : Index := 0#32
  ![v68.toNat, 0]
def k0_off20 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v79 : Index := Scalar.indexCast arg10
  let c16 : Index := 16#32
  ![v79.toNat, 16]
def k0_off21 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v90 : Index := Scalar.indexCast arg10
  let c32 : Index := 32#32
  ![v90.toNat, 32]
def k0_off22 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v101 : Index := Scalar.indexCast arg10
  let c48 : Index := 48#32
  ![v101.toNat, 48]
def k0_off23 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v112 : Index := Scalar.indexCast arg10
  let c64 : Index := 64#32
  ![v112.toNat, 64]
def k0_off24 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v123 : Index := Scalar.indexCast arg10
  let c80 : Index := 80#32
  ![v123.toNat, 80]
def k0_off25 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v134 : Index := Scalar.indexCast arg10
  let c96 : Index := 96#32
  ![v134.toNat, 96]
def k0_off26 (k0_t3 : Fin k0_t3_loop.trips) : Fin 2 → Nat :=
  let c0_i32_34 : BitVec 32 := 0#32
  let c1_i32_36 : BitVec 32 := 1#32
  let arg10 : BitVec 32 := Scf.iv c0_i32_34 c1_i32_36 k0_t3
  let v145 : Index := Scalar.indexCast arg10
  let c112 : Index := 112#32
  ![v145.toNat, 112]
@[reducible] def k0_t4_loop : Scf.Loop 32 :=
  let c0_i32_46 : BitVec 32 := 0#32
  let c128_i32_47 : BitVec 32 := 128#32
  let v35 : BitVec 32 := Scalar.addi c0_i32_46 c128_i32_47
  let c1_i32_48 : BitVec 32 := 1#32
  ⟨c0_i32_46, v35, c1_i32_48⟩
def k0_off27 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v68 : Index := Scalar.indexCast arg10
  let c0 : Index := 0#32
  ![v68.toNat, 0]
def k0_off28 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v79 : Index := Scalar.indexCast arg10
  let c16 : Index := 16#32
  ![v79.toNat, 16]
def k0_off29 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v90 : Index := Scalar.indexCast arg10
  let c32 : Index := 32#32
  ![v90.toNat, 32]
def k0_off30 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v101 : Index := Scalar.indexCast arg10
  let c48 : Index := 48#32
  ![v101.toNat, 48]
def k0_off31 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v112 : Index := Scalar.indexCast arg10
  let c64 : Index := 64#32
  ![v112.toNat, 64]
def k0_off32 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v123 : Index := Scalar.indexCast arg10
  let c80 : Index := 80#32
  ![v123.toNat, 80]
def k0_off33 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v134 : Index := Scalar.indexCast arg10
  let c96 : Index := 96#32
  ![v134.toNat, 96]
def k0_off34 (k0_t4 : Fin k0_t4_loop.trips) : Fin 2 → Nat :=
  let c0_i32_46 : BitVec 32 := 0#32
  let c1_i32_48 : BitVec 32 := 1#32
  let arg10 : BitVec 32 := Scf.iv c0_i32_46 c1_i32_48 k0_t4
  let v145 : Index := Scalar.indexCast arg10
  let c112 : Index := 112#32
  ![v145.toNat, 112]
@[reducible] def k0_t5_loop : Scf.Loop 32 :=
  let c0_i32_58 : BitVec 32 := 0#32
  let c128_i32_59 : BitVec 32 := 128#32
  let v43 : BitVec 32 := Scalar.addi c0_i32_58 c128_i32_59
  let c1_i32_60 : BitVec 32 := 1#32
  ⟨c0_i32_58, v43, c1_i32_60⟩
def k0_off35 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v68 : Index := Scalar.indexCast arg10
  let c0 : Index := 0#32
  ![v68.toNat, 0]
def k0_off36 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v79 : Index := Scalar.indexCast arg10
  let c16 : Index := 16#32
  ![v79.toNat, 16]
def k0_off37 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v90 : Index := Scalar.indexCast arg10
  let c32 : Index := 32#32
  ![v90.toNat, 32]
def k0_off38 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v101 : Index := Scalar.indexCast arg10
  let c48 : Index := 48#32
  ![v101.toNat, 48]
def k0_off39 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v112 : Index := Scalar.indexCast arg10
  let c64 : Index := 64#32
  ![v112.toNat, 64]
def k0_off40 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v123 : Index := Scalar.indexCast arg10
  let c80 : Index := 80#32
  ![v123.toNat, 80]
def k0_off41 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v134 : Index := Scalar.indexCast arg10
  let c96 : Index := 96#32
  ![v134.toNat, 96]
def k0_off42 (k0_t5 : Fin k0_t5_loop.trips) : Fin 2 → Nat :=
  let c0_i32_58 : BitVec 32 := 0#32
  let c1_i32_60 : BitVec 32 := 1#32
  let arg10 : BitVec 32 := Scf.iv c0_i32_58 c1_i32_60 k0_t5
  let v145 : Index := Scalar.indexCast arg10
  let c112 : Index := 112#32
  ![v145.toNat, 112]
@[reducible] def k0_t6_loop : Scf.Loop 32 :=
  let c0_i32_70 : BitVec 32 := 0#32
  let c128_i32_71 : BitVec 32 := 128#32
  let v51 : BitVec 32 := Scalar.addi c0_i32_70 c128_i32_71
  let c1_i32_72 : BitVec 32 := 1#32
  ⟨c0_i32_70, v51, c1_i32_72⟩
def k0_off43 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v68 : Index := Scalar.indexCast arg10
  let c0 : Index := 0#32
  ![v68.toNat, 0]
def k0_off44 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v79 : Index := Scalar.indexCast arg10
  let c16 : Index := 16#32
  ![v79.toNat, 16]
def k0_off45 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v90 : Index := Scalar.indexCast arg10
  let c32 : Index := 32#32
  ![v90.toNat, 32]
def k0_off46 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v101 : Index := Scalar.indexCast arg10
  let c48 : Index := 48#32
  ![v101.toNat, 48]
def k0_off47 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v112 : Index := Scalar.indexCast arg10
  let c64 : Index := 64#32
  ![v112.toNat, 64]
def k0_off48 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v123 : Index := Scalar.indexCast arg10
  let c80 : Index := 80#32
  ![v123.toNat, 80]
def k0_off49 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v134 : Index := Scalar.indexCast arg10
  let c96 : Index := 96#32
  ![v134.toNat, 96]
def k0_off50 (k0_t6 : Fin k0_t6_loop.trips) : Fin 2 → Nat :=
  let c0_i32_70 : BitVec 32 := 0#32
  let c1_i32_72 : BitVec 32 := 1#32
  let arg10 : BitVec 32 := Scf.iv c0_i32_70 c1_i32_72 k0_t6
  let v145 : Index := Scalar.indexCast arg10
  let c112 : Index := 112#32
  ![v145.toNat, 112]
@[reducible] def k0_t7_loop : Scf.Loop 32 :=
  let c0_i32_82 : BitVec 32 := 0#32
  let c128_i32_83 : BitVec 32 := 128#32
  let v59 : BitVec 32 := Scalar.addi c0_i32_82 c128_i32_83
  let c1_i32_84 : BitVec 32 := 1#32
  ⟨c0_i32_82, v59, c1_i32_84⟩
def k0_off51 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v68 : Index := Scalar.indexCast arg10
  let c0 : Index := 0#32
  ![v68.toNat, 0]
def k0_off52 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v79 : Index := Scalar.indexCast arg10
  let c16 : Index := 16#32
  ![v79.toNat, 16]
def k0_off53 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v90 : Index := Scalar.indexCast arg10
  let c32 : Index := 32#32
  ![v90.toNat, 32]
def k0_off54 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v101 : Index := Scalar.indexCast arg10
  let c48 : Index := 48#32
  ![v101.toNat, 48]
def k0_off55 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v112 : Index := Scalar.indexCast arg10
  let c64 : Index := 64#32
  ![v112.toNat, 64]
def k0_off56 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v123 : Index := Scalar.indexCast arg10
  let c80 : Index := 80#32
  ![v123.toNat, 80]
def k0_off57 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v134 : Index := Scalar.indexCast arg10
  let c96 : Index := 96#32
  ![v134.toNat, 96]
def k0_off58 (k0_t7 : Fin k0_t7_loop.trips) : Fin 2 → Nat :=
  let c0_i32_82 : BitVec 32 := 0#32
  let c1_i32_84 : BitVec 32 := 1#32
  let arg10 : BitVec 32 := Scf.iv c0_i32_82 c1_i32_84 k0_t7
  let v145 : Index := Scalar.indexCast arg10
  let c112 : Index := 112#32
  ![v145.toNat, 112]
@[reducible] def k0_t8_loop : Scf.Loop 32 :=
  let c0_i32_94 : BitVec 32 := 0#32
  let c128_i32_95 : BitVec 32 := 128#32
  let v67 : BitVec 32 := Scalar.addi c0_i32_94 c128_i32_95
  let c1_i32_96 : BitVec 32 := 1#32
  ⟨c0_i32_94, v67, c1_i32_96⟩
def k0_off59 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v68 : Index := Scalar.indexCast arg10
  let c0 : Index := 0#32
  ![v68.toNat, 0]
def k0_off60 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v79 : Index := Scalar.indexCast arg10
  let c16 : Index := 16#32
  ![v79.toNat, 16]
def k0_off61 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v90 : Index := Scalar.indexCast arg10
  let c32 : Index := 32#32
  ![v90.toNat, 32]
def k0_off62 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v101 : Index := Scalar.indexCast arg10
  let c48 : Index := 48#32
  ![v101.toNat, 48]
def k0_off63 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v112 : Index := Scalar.indexCast arg10
  let c64 : Index := 64#32
  ![v112.toNat, 64]
def k0_off64 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v123 : Index := Scalar.indexCast arg10
  let c80 : Index := 80#32
  ![v123.toNat, 80]
def k0_off65 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v134 : Index := Scalar.indexCast arg10
  let c96 : Index := 96#32
  ![v134.toNat, 96]
def k0_off66 (k0_t8 : Fin k0_t8_loop.trips) : Fin 2 → Nat :=
  let c0_i32_94 : BitVec 32 := 0#32
  let c1_i32_96 : BitVec 32 := 1#32
  let arg10 : BitVec 32 := Scf.iv c0_i32_94 c1_i32_96 k0_t8
  let v145 : Index := Scalar.indexCast arg10
  let c112 : Index := 112#32
  ![v145.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x128 : Shape := ⟨2, ![32768, 128]⟩
abbrev S2048x128 : Shape := ⟨2, ![2048, 128]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S2048x128, .f32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S1, .i32⟩
  | .hbm, ⟨12, _⟩ => ⟨S_, .i32⟩
  | .hbm, ⟨13, _⟩ => ⟨S32768x1, .i32⟩
  | .hbm, ⟨14, _⟩ => ⟨S32768x1, .i1⟩
  | .hbm, ⟨15, _⟩ => ⟨S1x1, .i32⟩
  | .hbm, ⟨16, _⟩ => ⟨S32768x1, .i32⟩
  | .hbm, ⟨17, _⟩ => ⟨S32768x1, .i1⟩
  | .hbm, ⟨18, _⟩ => ⟨S32768x1, .i1⟩
  | .hbm, ⟨19, _⟩ => ⟨S_, .i1⟩
  | .hbm, ⟨20, _⟩ => ⟨S32768, .i1⟩
  | .hbm, ⟨21, _⟩ => ⟨S32768x128, .f32⟩
  | .hbm, ⟨22, _⟩ => ⟨S32768x128, .i1⟩
  | .hbm, ⟨23, _⟩ => ⟨S_, .f32⟩
  | .hbm, ⟨24, _⟩ => ⟨S32768x128, .f32⟩
  | .hbm, ⟨25, _⟩ => ⟨S32768x128, .f32⟩
  | .hbm, ⟨26, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.RowsIdeal.lean ====
/-
  The row loop of one chunk: a tile holds 128 rows of hits and 128 gathered rows, and replaces each gathered row by the
  hits' row minus it, sixteen columns at a time. Stated once for the eight printed loops.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The programs -/

/-- One segment: the sixteen columns at `o` of both buffers are read, and their difference stored over the second's. -/
def segment {sc : Fin τ.nSC} {su : Fin τ.nSub} (A B : Memref sig .scVector .vmem S128x128 .f32) (o : Fin 2 → Nat)
    (ho : ∀ a, o a + S1x16.size a ≤ S128x128.size a) : Prog (TpuEff nD τ sig (Elt F) Λ₀ (.scVector sc su)) PUnit := do
  let v : Vec F S1x16 .f32 ← Prog.lift (.load A (Rect.unit (s := S128x128) o S1x16.size ho).toLoadRect (View.loadsAt_vmem h_S1x16))
  let w : Vec F S1x16 .f32 ← Prog.lift (.load B (Rect.unit (s := S128x128) o S1x16.size ho).toLoadRect (View.loadsAt_vmem h_S1x16))
  let _ : Vec F S1x16 .f32 ← Prog.lift (.load B (Rect.unit (s := S128x128) o S1x16.size ho).toLoadRect (View.loadsAt_vmem h_S1x16))
  Prog.lift (.store B (Rect.unit (s := S128x128) o S1x16.size ho) (k0_pay1 v w) Finset.univ (View.stores_vmem_bits_univ h_S1x16 rfl) (.inl rfl))

/-- One row: its eight segments in order. -/
def rowTrip {sc : Fin τ.nSC} {su : Fin τ.nSub} (A B : Memref sig .scVector .vmem S128x128 .f32) :
    Fin k0_t1_loop.trips → Unit → Prog (TpuEff nD τ sig (Elt F) Λ₀ (.scVector sc su)) Unit :=
  fun r _ => do
    segment A B (k0_off3 r) (k0_off3_inb r)
    segment A B (k0_off4 r) (k0_off4_inb r)
    segment A B (k0_off5 r) (k0_off5_inb r)
    segment A B (k0_off6 r) (k0_off6_inb r)
    segment A B (k0_off7 r) (k0_off7_inb r)
    segment A B (k0_off8 r) (k0_off8_inb r)
    segment A B (k0_off9 r) (k0_off9_inb r)
    segment A B (k0_off10 r) (k0_off10_inb r)
    pure ⟨⟩

omit [FloatOps F] in
/-- Each row of a tile's ids lies in its buffer. -/
theorem idsRow_inb (j : Fin 8) : ∀ a, (![j.val, 0] : Fin 2 → Nat) a + S1x128.size a ≤ S8x128.size a := by
  revert j; decide

/-- One chunk of 128 rows, chunk `j` of the tile's eight: the gather of the rows the chunk's ids name into `B` is started,
    the chunk's hits copied into `A`, the gather waited for, the row loop run, and `B` copied out. -/
def chunk (i : grid0.Coords) (hits : Memref sig .scVector .hbm S32768x128 .f32) (cond : Memref sig .scVector .hbm S2048x128 .f32)
    (out : Memref sig .scVector .hbm S32768x128 .f32) (ids : Memref sig .scVector .vmem S8x128 .i32)
    (A : Memref sig .scVector .vmem S128x128 .f32) (hA : A.IsWhole) (B : Memref sig .scVector .vmem S128x128 .f32) (hB : B.IsWhole)
    (sg si so : DmaSems sig S_) (j : Fin 8) :
    Prog (TpuEff nD τ sig (Elt F) Λ₀ (.scVector ((i 0).castLE hcore0) ((i 1).castLE hsub0))) PUnit := do
  SparseCore.enqueueIndirectGather rfl (cond.slice (Rect.unit (s := S2048x128) ![0, 0] S2048x128.size inb_S2048x128_S2048x128_0_0) (fun _ => rfl)) B
    gathers_S2048x128_S128x128 ((ids.slice (Rect.unit (s := S8x128) ![j.val, 0] S1x128.size (idsRow_inb j)) (fun _ => rfl)).squeeze S128 squeezes_S1x128_S128)
    rfl sg.sem (View.wordExact_bits rfl) rfl (Or.inl rfl)
  Prog.lift (.enqueueDma (hits.slice (Rect.unit (s := S32768x128) (k0_off2 i (BitVec.ofNat 32 (128 * j.val))) S128x128.size (k0_off2_inb i j)) (fun _ => rfl))
    (.here A) (.dma si.sem) (View.wordExact_bits rfl) hA.wordExact ⟨Or.inl rfl, trivial⟩)
  Prog.lift (.waitDma2 si.sem (hits.slice (Rect.unit (s := S32768x128) (k0_off2 i (BitVec.ofNat 32 (128 * j.val))) S128x128.size (k0_off2_inb i j)) (fun _ => rfl))
    A (View.wordExact_bits rfl) hA.wordExact)
  SparseCore.waitIndirectGather sg.sem (cond.slice (Rect.unit (s := S2048x128) ![0, 0] S2048x128.size inb_S2048x128_S2048x128_0_0) (fun _ => rfl)) B
    (View.wordExact_bits rfl) hB.wordExact
  Scf.Loop.for k0_t1_loop k0_t1_ok ⟨⟩ (rowTrip A B)
  Prog.lift (.enqueueDma B (.here (out.slice (Rect.unit (s := S32768x128) (k0_off2 i (BitVec.ofNat 32 (128 * j.val))) S128x128.size (k0_off2_inb i j)) (fun _ => rfl)))
    (.dma so.sem) hB.wordExact (View.wordExact_bits rfl) ⟨Or.inl rfl, trivial⟩)
  Prog.lift (.waitDma2 so.sem B (out.slice (Rect.unit (s := S32768x128) (k0_off2 i (BitVec.ofNat 32 (128 * j.val))) S128x128.size (k0_off2_inb i j)) (fun _ => rfl))
    hB.wordExact (View.wordExact_bits rfl))

/-- The fetch of a tile's eight rows of ids. -/
def fetch (i : grid0.Coords) (gids : Memref sig .scVector .hbm S256x128 .i32) (ids : Memref sig .scVector .vmem S8x128 .i32) (hI : ids.IsWhole)
    (s : DmaSems sig S_) : Prog (TpuEff nD τ sig (Elt F) Λ₀ (.scVector ((i 0).castLE hcore0) ((i 1).castLE hsub0))) PUnit := do
  Prog.lift (.enqueueDma (gids.slice (Rect.unit (s := S256x128) (k0_off1 i) S8x128.size (k0_off1_inb i)) (fun _ => rfl)) (.here ids) (.dma s.sem)
    (View.wordExact_bits rfl) hI.wordExact ⟨Or.inl rfl, trivial⟩)
  Prog.lift (.waitDma2 s.sem (gids.slice (Rect.unit (s := S256x128) (k0_off1 i) S8x128.size (k0_off1_inb i)) (fun _ => rfl)) ids
    (View.wordExact_bits rfl) hI.wordExact)

set_option maxRecDepth 65536 in
set_option maxHeartbeats 4000000 in
/-- The printed body is the fetch and then the eight chunks. -/
theorem body_eq (i : grid0.Coords) (arg2 : Memref sig .scVector .hbm S32768x128 .f32) (harg2 : arg2.IsWhole) (arg3 : Memref sig .scVector .hbm S2048x128 .f32)
    (harg3 : arg3.IsWhole) (arg4 : Memref sig .scVector .hbm S256x128 .i32) (harg4 : arg4.IsWhole) (arg5 : Memref sig .scVector .hbm S32768x128 .f32)
    (harg5 : arg5.IsWhole) (arg6 : Memref sig .scVector .vmem S8x128 .i32) (harg6 : arg6.IsWhole) (arg7 : Memref sig .scVector .vmem S128x128 .f32)
    (harg7 : arg7.IsWhole) (arg8 : Memref sig .scVector .vmem S128x128 .f32) (harg8 : arg8.IsWhole)
    (a9 s0 s1 s2 s3 s4 s5 s6 s7 s8 s9 s10 s11 s12 s13 s14 s15 s16 : DmaSems sig S_) :
    cc0__sc_body (F := F) i arg2 harg2 arg3 harg3 arg4 harg4 arg5 harg5 arg6 harg6 arg7 harg7 arg8 harg8 a9
        s0 s1 s2 s3 s4 s5 s6 s7 s8 s9 s10 s11 s12 s13 s14 s15 s16
      = (do
        fetch i arg4 arg6 harg6 s0
        chunk i arg2 arg3 arg5 arg6 arg7 harg7 arg8 harg8 a9 s1 s2 0
        chunk i arg2 arg3 arg5 arg6 arg7 harg7 arg8 harg8 a9 s3 s4 1
        chunk i arg2 arg3 arg5 arg6 arg7 harg7 arg8 harg8 a9 s5 s6 2
        chunk i arg2 arg3 arg5 arg6 arg7 harg7 arg8 harg8 a9 s7 s8 3
        chunk i arg2 arg3 arg5 arg6 arg7 harg7 arg8 harg8 a9 s9 s10 4
        chunk i arg2 arg3 arg5 arg6 arg7 harg7 arg8 harg8 a9 s11 s12 5
        chunk i arg2 arg3 arg5 arg6 arg7 harg7 arg8 harg8 a9 s13 s14 6
        chunk i arg2 arg3 arg5 arg6 arg7 harg7 arg8 harg8 a9 s15 s16 7) := by
  rw [cc0__sc_body_eq_skeleton]
  unfold cc0__sc_body_skel
  rw [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  unfold fetch chunk
  simp only [bind_assoc, pure_bind]
  rfl

/-! ## What a segment, a row and the loop leave in the second buffer -/

/-- The contents of a 128 by 128 buffer of floats. -/
abbrev Tile128 (F : FTy → Type) : Type := S128x128.Idx → Elt F .f32

/-- `C` with `H - C` on the rows before `r` and on the first `k` columns of row `r`. -/
def upTo (H C : Tile128 F) (r k : Nat) : Tile128 F :=
  fun x => if (x 0).val < r ∨ ((x 0).val = r ∧ (x 1).val < k) then FloatOps.subf (φ := .f32) (H x) (C x) else C x

/-- Before the first segment nothing is subtracted. -/
theorem upTo_start (H C : Tile128 F) : upTo H C 0 0 = C := by
  funext x; simp [upTo]

/-- A row done is the next row begun. -/
theorem upTo_row (H C : Tile128 F) (r : Nat) : upTo H C r 128 = upTo H C (r + 1) 0 := by
  funext x
  have h1 : (x 1).val < 128 := (x 1).isLt
  unfold upTo
  by_cases h : (x 0).val < r + 1
  · rw [if_pos (by omega), if_pos (by omega)]
  · rw [if_neg (by omega), if_neg (by omega)]

/-- All rows done: the hits minus the gathered rows, everywhere. -/
theorem upTo_end (H C : Tile128 F) : upTo H C 128 0 = subf (s := S128x128) (φ := .f32) H C := by
  funext x
  have h0 : (x 0).val < 128 := (x 0).isLt
  unfold upTo
  rw [if_pos (by omega)]; rfl

local notation "hV" => (Memref.whole Cert.KernelIdeal.cc0_scratch1 : Memref Cert.KernelIdeal.sig Kind.scVector Space.vmem Cert.KernelIdeal.S128x128 EltTy.f32)
local notation "gV" => (Memref.whole Cert.KernelIdeal.cc0_scratch2 : Memref Cert.KernelIdeal.sig Kind.scVector Space.vmem Cert.KernelIdeal.S128x128 EltTy.f32)

/-- A segment's stored value is the difference of the two read. -/
theorem pay_eq (v w : Vec F S1x16 .f32) : k0_pay1 v w = subf (s := S1x16) (φ := .f32) v w := by
  show shapeCast S1x16 (subf (shapeCast S16 v shapeCasts_S1x16_S16) (shapeCast S16 w shapeCasts_S1x16_S16)) shapeCasts_S16_S1x16 = _
  funext x
  show FloatOps.subf (shapeCast S1x16 (shapeCast S16 v shapeCasts_S1x16_S16) shapeCasts_S16_S1x16 x)
    (shapeCast S1x16 (shapeCast S16 w shapeCasts_S1x16_S16) shapeCasts_S16_S1x16 x) = _
  rw [shapeCast_shapeCast, shapeCast_shapeCast]; rfl

/-- The segment at row `r`, columns `k` to `k + 15`, takes the first `k` columns done to `k + 16` done. -/
theorem write_segment (H C : Tile128 F) (r k : Nat) (ho : ∀ a, (![r, k] : Fin 2 → Nat) a + S1x16.size a ≤ S128x128.size a) :
    ((gV).access (Rect.unit (s := S128x128) ![r, k] S1x16.size ho)).write (Elt F) (upTo H C r k)
        (k0_pay1 ((hV).view.readAt (Elt F) (Rect.unit (s := S128x128) ![r, k] S1x16.size ho).toLoadRect H)
          ((gV).view.readAt (Elt F) (Rect.unit (s := S128x128) ![r, k] S1x16.size ho).toLoadRect (upTo H C r k))) Finset.univ
      = upTo H C r (k + 16) := by
  funext x
  by_cases hx : x ∈ (Rect.unit (s := S128x128) ![r, k] S1x16.size ho).set
  · rw [← Rect.map_emb_univ] at hx
    obtain ⟨y, -, rfl⟩ := Finset.mem_map.mp hx
    have h0 : (((Rect.unit (s := S128x128) ![r, k] S1x16.size ho).emb y) 0).val = r + (y 0).val := by
      rw [Rect.emb_apply]; simp
    have h1 : (((Rect.unit (s := S128x128) ![r, k] S1x16.size ho).emb y) 1).val = k + (y 1).val := by
      rw [Rect.emb_apply]; simp
    have hy0 : (y 0).val < 1 := (y 0).isLt
    have hy1 : (y 1).val < 16 := (y 1).isLt
    refine (View.write_emb_of_mem (v := (gV).access (Rect.unit (s := S128x128) ![r, k] S1x16.size ho)) _ _ (Finset.mem_univ y)).trans ?_
    rw [pay_eq]
    show FloatOps.subf (φ := .f32) (H ((Rect.unit (s := S128x128) ![r, k] S1x16.size ho).emb y))
      (upTo H C r k ((Rect.unit (s := S128x128) ![r, k] S1x16.size ho).emb y)) = _
    unfold upTo
    rw [if_neg (by omega), if_pos (by omega)]
  · have hn := fun h => hx (Rect.mem_set_unit.mpr h)
    refine (View.write_of_not_mem (v := (gV).access (Rect.unit (s := S128x128) ![r, k] S1x16.size ho)) _ _ Finset.univ ?_).trans ?_
    · show x ∉ ((gV).access (Rect.unit (s := S128x128) ![r, k] S1x16.size ho)).set
      show x ∉ ((View.whole (cc0_scratch2 : Ref sig .scVector)).slice (Rect.unit (s := S128x128) ![r, k] S1x16.size ho)).set
      rw [View.set_slice]; exact fun h => hx (by simpa using h)
    · rw [Fin.forall_fin_two] at hn
      have hn' : ¬ ((r ≤ (x 0).val ∧ (x 0).val < r + 1) ∧ (k ≤ (x 1).val ∧ (x 1).val < k + 16)) := hn
      unfold upTo
      by_cases h : (x 0).val < r ∨ ((x 0).val = r ∧ (x 1).val < k)
      · rw [if_pos h, if_pos (by omega)]
      · rw [if_neg h, if_neg (by omega)]

/-! ## The loop's run -/

abbrev UH : Type := URounds (GSem nD τ sig) ℕ
abbrev UU : Type := UH × Counters

local notation "𝕄" => MT nD τ sig (SparseCore.Cfg.HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0

section Run

variable (d : Dev nD) (L : grid0.Coords)

/-- The tile's thread. -/
abbrev TL : Thread nD τ := SparseCore.V d (cV L) (jV L)

/-- The two buffers a row works on. -/
abbrev pair (H : Tile128 F) (G : Tile128 F) : sProp 𝕄 :=
  iprop(((hV).view.loc (TL d L) ↦{fullShare} H) ∗ ((gV).view.loc (TL d L) ↦{fullShare} G))

/-- A segment's run. -/
theorem run_segment (H C : Tile128 F) (r k : Nat) (o : Fin 2 → Nat) (ho : ∀ a, o a + S1x16.size a ≤ S128x128.size a) (h : o = ![r, k]) :
    (pair d L H (upTo H C r k) : sProp 𝕄)
      ⊢ wp frame (wpE (defs₀ (F := F)) 𝒱₀ (TL d L) none) Set.univ (segment (sc := cV L) (su := jV L) hV gV o ho)
          fun _ => pair d L H (upTo H C r (k + 16)) := by
  subst h
  unfold pair segment
  simp only [Prog.bind_lift]
  unfold Prog.lift
  iintro ⟨HA, HB⟩
  sl_step
  sl_step
  sl_step
  iapply (wp_store 𝒱₀ (TL d L) none Set.univ (m := gV) (r := Rect.unit (s := S128x128) ![r, k] S1x16.size ho) (Finset.subset_univ _)) $$ HB
  rw [write_segment H C r k ho]
  iintro HB
  sl_step
  isplitl [HA]; · iexact HA
  iexact HB

/-- A row's run. -/
theorem run_row (H C : Tile128 F) (r : Fin k0_t1_loop.trips) (u : Unit) :
    (pair d L H (upTo H C r.val 0) : sProp 𝕄)
      ⊢ wp frame (wpE (defs₀ (F := F)) 𝒱₀ (TL d L) none) Set.univ (rowTrip (sc := cV L) (su := jV L) hV gV r u)
          fun _ => pair d L H (upTo H C (r.val + 1) 0) := by
  unfold rowTrip
  simp only [wp_bind]
  refine (run_segment d L H C r.val 0 _ _ (k0_off3_eq r)).trans (wp_mono frame _ _ fun _ => ?_)
  refine (run_segment d L H C r.val 16 _ _ (k0_off4_eq r)).trans (wp_mono frame _ _ fun _ => ?_)
  refine (run_segment d L H C r.val 32 _ _ (k0_off5_eq r)).trans (wp_mono frame _ _ fun _ => ?_)
  refine (run_segment d L H C r.val 48 _ _ (k0_off6_eq r)).trans (wp_mono frame _ _ fun _ => ?_)
  refine (run_segment d L H C r.val 64 _ _ (k0_off7_eq r)).trans (wp_mono frame _ _ fun _ => ?_)
  refine (run_segment d L H C r.val 80 _ _ (k0_off8_eq r)).trans (wp_mono frame _ _ fun _ => ?_)
  refine (run_segment d L H C r.val 96 _ _ (k0_off9_eq r)).trans (wp_mono frame _ _ fun _ => ?_)
  refine (run_segment d L H C r.val 112 _ _ (k0_off10_eq r)).trans (wp_mono frame _ _ fun _ => ?_)
  rw [← upTo_row]
  rw [wp_pure]; exact fupd_intro

/-- The loop's run: the second buffer ends as the first minus it. -/
theorem run_rows (H C : Tile128 F) :
    (pair d L H C : sProp 𝕄)
      ⊢ wp frame (wpE (defs₀ (F := F)) 𝒱₀ (TL d L) none) Set.univ
          (Scf.Loop.for k0_t1_loop k0_t1_ok ⟨⟩ (rowTrip (F := F) (sc := cV L) (su := jV L) hV gV))
          fun _ => pair d L H (subf (s := S128x128) (φ := .f32) H C) := by
  refine BIBase.Entails.trans ?_ (Scf.wp_for frame _ _ _ _ _ _ _ _ (fun k _ => pair d L H (upTo H C k 0)) (fun k u => run_row d L H C k u))
  rw [upTo_start, show Scf.trips k0_t1_loop.lb k0_t1_loop.ub k0_t1_loop.st = 128 by decide, upTo_end]
  iintro HP
  isplitl [HP]
  · iexact HP
  · iintro %_ HP
    iexact HP

end Run

end Cert.Proof.OfKernelIdeal

end
-- ==== Proof.ChunkIdeal.lean ====
/-
  One chunk of 128 rows as a tile runs it: what the ids' fetch, the gather, the hits' copy and the copy out read and write,
  index by index, and the run of a whole chunk from these.
-/
module

public import proofs.«01_k».proof.Proof.RowsIdeal
public import Idealize.ShloMosaic.Lib.SparseCore.FromWhole
public import Idealize.ShloMosaic.Lib.ShareLeaves

@[expose] public section

noncomputable section

namespace Cert.Proof.OfKernelIdeal

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "hitsV" => (Memref.whole Cert.KernelIdeal.main_arg0_scv : Memref Cert.KernelIdeal.sig Kind.scVector Space.hbm Cert.KernelIdeal.S32768x128 EltTy.f32)
local notation "condV" => (Memref.whole Cert.KernelIdeal.main_arg1_scv : Memref Cert.KernelIdeal.sig Kind.scVector Space.hbm Cert.KernelIdeal.S2048x128 EltTy.f32)
local notation "gidV" => (Memref.whole Cert.KernelIdeal.main_v0_scv : Memref Cert.KernelIdeal.sig Kind.scVector Space.hbm Cert.KernelIdeal.S256x128 EltTy.i32)
local notation "outV" => (Memref.whole Cert.KernelIdeal.main_v1_scv : Memref Cert.KernelIdeal.sig Kind.scVector Space.hbm Cert.KernelIdeal.S32768x128 EltTy.f32)
local notation "idsV" => (Memref.whole Cert.KernelIdeal.cc0_scratch0 : Memref Cert.KernelIdeal.sig Kind.scVector Space.vmem Cert.KernelIdeal.S8x128 EltTy.i32)
local notation "hV" => (Memref.whole Cert.KernelIdeal.cc0_scratch1 : Memref Cert.KernelIdeal.sig Kind.scVector Space.vmem Cert.KernelIdeal.S128x128 EltTy.f32)
local notation "gV" => (Memref.whole Cert.KernelIdeal.cc0_scratch2 : Memref Cert.KernelIdeal.sig Kind.scVector Space.vmem Cert.KernelIdeal.S128x128 EltTy.f32)

/-! ## The values -/

/-- The id of row `n` in the ids laid out 256 by 128. -/
def idAt (G : S256x128.Idx → Elt F .i32) (n : Nat) : BitVec 32 :=
  G (Shape.pair (d := ![256, 128]) ⟨n / 128 % 256, Nat.mod_lt _ (by decide)⟩ ⟨n % 128, Nat.mod_lt _ (by decide)⟩)

/-- Column `k` of row `n` of the conditions. -/
def condAt (n : Nat) (k : Fin 128) : S2048x128.Idx :=
  Shape.pair (d := ![2048, 128]) ⟨n % 2048, Nat.mod_lt _ (by decide)⟩ k

/-- The result: each row of hits minus the row of conditions its id names. -/
def result (H : S32768x128.Idx → Elt F .f32) (C : S2048x128.Idx → Elt F .f32) (G : S256x128.Idx → Elt F .i32) :
    S32768x128.Idx → Elt F .f32 :=
  fun x => FloatOps.subf (φ := .f32) (H x) (C (condAt (idAt G (x 0).val).toNat (x 1)))

/-- Two multi-indices of rank two with equal coordinates are equal. -/
theorem idx2_ext {d : Fin 2 → Nat} {x y : (⟨2, d⟩ : Shape).Idx} (h0 : (x 0).val = (y 0).val) (h1 : (x 1).val = (y 1).val) : x = y := by
  funext a
  match a with
  | 0 => exact Fin.ext h0
  | 1 => exact Fin.ext h1

/-- The tile's number: twice its subcore's plus its core's. -/
def tileNo (L : grid0.Coords) : Nat := 2 * (L 1).val + (L 0).val

omit [FloatOps F] in
/-- There are 32 tiles. -/
theorem tileNo_lt (L : grid0.Coords) : tileNo L < 32 := by
  have h0 : (L 0).val < 2 := (L 0).isLt
  have h1 : (L 1).val < 16 := (L 1).isLt
  unfold tileNo; omega

/-- The ids a tile fetches: those of its 1024 rows, 128 to a line. -/
def tileIds (G : S256x128.Idx → Elt F .i32) (w : Nat) : S8x128.Idx → Elt F .i32 :=
  fun y => idAt G (1024 * w + 128 * (y 0).val + (y 1).val)

/-- The rows gathered for chunk `j` of tile `w`. -/
def gathered (C : S2048x128.Idx → Elt F .f32) (G : S256x128.Idx → Elt F .i32) (w j : Nat) : Tile128 F :=
  fun x => C (condAt (idAt G (1024 * w + 128 * j + (x 0).val)).toNat (x 1))

/-- The output with tile `w`'s first `n` chunks written over `f`. -/
def written (H : S32768x128.Idx → Elt F .f32) (C : S2048x128.Idx → Elt F .f32) (G : S256x128.Idx → Elt F .i32) (f : S32768x128.Idx → Elt F .f32)
    (w n : Nat) : S32768x128.Idx → Elt F .f32 :=
  fun x => if 1024 * w ≤ (x 0).val ∧ (x 0).val < 1024 * w + 128 * n then result H C G x else f x

/-- No chunk written is the output as it was. -/
theorem written_zero (H : S32768x128.Idx → Elt F .f32) (C : S2048x128.Idx → Elt F .f32) (G : S256x128.Idx → Elt F .i32)
    (f : S32768x128.Idx → Elt F .f32) (w : Nat) : written H C G f w 0 = f := by
  funext x; unfold written; rw [if_neg (by omega)]

/-! ## The views -/

section Views

variable (L : grid0.Coords)

/-- The eight lines of ids the tile fetches. -/
abbrev gidK : Memref sig .scVector .hbm S8x128 .i32 :=
  (gidV).slice (Rect.unit (s := S256x128) (k0_off1 L) S8x128.size (k0_off1_inb L)) (fun _ => rfl)
/-- Chunk `j`'s rows of hits. -/
abbrev hitsK (j : Fin 8) : Memref sig .scVector .hbm S128x128 .f32 :=
  (hitsV).slice (Rect.unit (s := S32768x128) (k0_off2 L (BitVec.ofNat 32 (128 * j.val))) S128x128.size (k0_off2_inb L j)) (fun _ => rfl)
/-- Chunk `j`'s rows of the output. -/
abbrev outK (j : Fin 8) : Memref sig .scVector .hbm S128x128 .f32 :=
  (outV).slice (Rect.unit (s := S32768x128) (k0_off2 L (BitVec.ofNat 32 (128 * j.val))) S128x128.size (k0_off2_inb L j)) (fun _ => rfl)
/-- All of the conditions. -/
abbrev condK : Memref sig .scVector .hbm S2048x128 .f32 :=
  (condV).slice (Rect.unit (s := S2048x128) ![0, 0] S2048x128.size inb_S2048x128_S2048x128_0_0) (fun _ => rfl)
/-- Line `j` of the fetched ids. -/
abbrev lineK (j : Fin 8) : Memref sig .scVector .vmem S128 .i32 :=
  ((idsV).slice (Rect.unit (s := S8x128) ![j.val, 0] S1x128.size (idsRow_inb j)) (fun _ => rfl)).squeeze S128 squeezes_S1x128_S128

omit [FloatOps F] in
/-- Where a chunk's element lies in the whole array. -/
theorem chunk_emb (j : Fin 8) (y : S128x128.Idx) :
    let R := Rect.unit (s := S32768x128) (k0_off2 L (BitVec.ofNat 32 (128 * j.val))) S128x128.size (k0_off2_inb L j)
    ((R.emb y) 0).val = 1024 * tileNo L + 128 * j.val + (y 0).val ∧ ((R.emb y) 1).val = (y 1).val := by
  intro R
  have h0 := Rect.emb_apply R y 0
  have h1 := Rect.emb_apply R y 1
  have e := k0_off2_eq L j
  have e0 := congrFun e 0
  have e1 := congrFun e 1
  simp only [R, Rect.off_unit, Rect.stride_unit, e0, e1, Nat.one_mul] at h0 h1
  unfold tileNo
  constructor
  · rw [h0]; simp; omega
  · rw [h1]; simp

/-- The fetch reads the tile's ids. -/
theorem read_gid (G : S256x128.Idx → Elt F .i32) : (gidK L).view.read (Elt F) G = tileIds G (tileNo L) := by
  funext y
  show G ((Rect.unit (s := S256x128) (k0_off1 L) S8x128.size (k0_off1_inb L)).emb y) = idAt G _
  unfold idAt
  have hy0 : (y 0).val < 8 := (y 0).isLt
  have hy1 : (y 1).val < 128 := (y 1).isLt
  have hw := tileNo_lt L
  have e := k0_off1_eq L
  have h0 := Rect.emb_apply (Rect.unit (s := S256x128) (k0_off1 L) S8x128.size (k0_off1_inb L)) y 0
  have h1 := Rect.emb_apply (Rect.unit (s := S256x128) (k0_off1 L) S8x128.size (k0_off1_inb L)) y 1
  simp only [Rect.off_unit, Rect.stride_unit, e, Nat.one_mul] at h0 h1
  refine congrArg G (idx2_ext ?_ ?_)
  · rw [h0, Shape.pair_zero]
    show 16 * (L 1).val + 8 * (L 0).val + (y 0).val = (1024 * tileNo L + 128 * (y 0).val + (y 1).val) / 128 % 256
    unfold tileNo at *; omega
  · rw [h1, Shape.pair_one]
    show 0 + (y 1).val = (1024 * tileNo L + 128 * (y 0).val + (y 1).val) % 128
    omega

/-- Chunk `j`'s hits, read. -/
theorem read_hits (H : S32768x128.Idx → Elt F .f32) (j : Fin 8) (y : S128x128.Idx) :
    (hitsK L j).view.read (Elt F) H y
      = H ((Rect.unit (s := S32768x128) (k0_off2 L (BitVec.ofNat 32 (128 * j.val))) S128x128.size (k0_off2_inb L j)).emb y) := rfl

omit [FloatOps F] in
/-- Line `j`'s entry `k` is the fetched buffer's at row `j`, column `k`. -/
theorem read_line (f : S8x128.Idx → Elt F .i32) (j : Fin 8) (k : S128.Idx) :
    (lineK j).view.read (Elt F) f k = f (Shape.pair (d := ![8, 128]) j (k 0)) := by
  show f ((Rect.unit (s := S8x128) ![j.val, 0] S1x128.size (idsRow_inb j)).emb
    (Shape.reshapeEquiv (s := S1x128) (s' := S128) squeezes_S1x128_S128.numel_eq k)) = _
  have e : Shape.reshapeEquiv (s := S1x128) (s' := S128) squeezes_S1x128_S128.numel_eq k = Shape.pair (d := ![1, 128]) (0 : Fin 1) (k 0) := by
    refine Shape.reshapeEquiv_eq_of_rowMajor _ ?_
    exact (Shape.rowMajor_pair_val (d := ![1, 128]) (0 : Fin 1) (k 0)).trans
      ((show 0 * 128 + (k 0).val = (k 0).val by omega).trans (Shape.rowMajor_val_one k).symm)
  rw [e]
  refine congrArg f (idx2_ext ?_ ?_)
  · rw [Rect.emb_apply]
    show j.val + 1 * 0 = j.val
    omega
  · rw [Rect.emb_apply]
    show 0 + 1 * (k 0).val = (k 0).val
    omega

/-- A word of a line of the tile's ids is in range. -/
theorem line_inb (G : S256x128.Idx → Elt F .i32) (hG : ∀ y, (G y).toNat < 2048) (w : Nat) (j : Fin 8) (x : S128.Idx) :
    ((lineK j).view.read (Elt F) (tileIds G w) x).toNat < S2048x128.size gathers_S2048x128_S128x128.axis := by
  rw [read_line]; exact hG _

/-- The gather's payload is the chunk's rows. -/
theorem payload_eq (C : S2048x128.Idx → Elt F .f32) (G : S256x128.Idx → Elt F .i32) (hG : ∀ y, (G y).toNat < 2048) (w : Nat) (j : Fin 8)
    (hin : ∀ x, ((lineK j).view.read (Elt F) (tileIds G w) x).toNat < S2048x128.size gathers_S2048x128_S128x128.axis) :
    SparseCore.gatherPayload gathers_S2048x128_S128x128 ((condK).view.read (Elt F) C)
        (SparseCore.rows ((lineK j).view.read (Elt F) (tileIds G w)) rfl hin)
      = gathered C G w j.val := by
  funext x
  have hr : (SparseCore.rows ((lineK j).view.read (Elt F) (tileIds G w)) rfl hin (x 0)).val
      = (idAt G (1024 * w + 128 * j.val + (x 0).val)).toNat := by
    show ((lineK j).view.read (Elt F) (tileIds G w) (S128.rowMajor.symm (x 0))).toNat = _
    rw [read_line]
    have hk : ((S128.rowMajor.symm (x 0)) 0).val = (x 0).val := by
      refine (Shape.rowMajor_val_one (S128.rowMajor.symm (x 0))).symm.trans ?_
      exact congrArg Fin.val (S128.rowMajor.apply_symm_apply (x 0))
    show (idAt G (1024 * w + 128 * j.val + ((S128.rowMajor.symm (x 0)) 0).val)).toNat = _
    rw [hk]
  have hlt : (idAt G (1024 * w + 128 * j.val + (x 0).val)).toNat < 2048 := hG _
  show C ((Rect.unit (s := S2048x128) ![0, 0] S2048x128.size inb_S2048x128_S2048x128_0_0).emb
    (gathers_S2048x128_S128x128.idx (SparseCore.rows ((lineK j).view.read (Elt F) (tileIds G w)) rfl hin) x)) = C _
  refine congrArg C (idx2_ext ?_ ?_)
  · rw [Rect.emb_apply]
    show 0 + 1 * (SparseCore.rows ((lineK j).view.read (Elt F) (tileIds G w)) rfl hin (x 0)).val = _ % 2048
    rw [hr, Nat.mod_eq_of_lt hlt]; omega
  · rw [Rect.emb_apply]
    show 0 + 1 * (x 1).val = (x 1).val
    omega

/-- The copy out of chunk `j` takes the first `j` chunks written to the first `j + 1`. -/
theorem write_out (H : S32768x128.Idx → Elt F .f32) (C : S2048x128.Idx → Elt F .f32) (G : S256x128.Idx → Elt F .i32)
    (f : S32768x128.Idx → Elt F .f32) (j : Fin 8) :
    (outK L j).view.write (Elt F) (written H C G f (tileNo L) j.val)
        (subf (s := S128x128) (φ := .f32) ((hitsK L j).view.read (Elt F) H) (gathered C G (tileNo L) j.val)) Finset.univ
      = written H C G f (tileNo L) (j.val + 1) := by
  funext x
  by_cases hx : x ∈ (Rect.unit (s := S32768x128) (k0_off2 L (BitVec.ofNat 32 (128 * j.val))) S128x128.size (k0_off2_inb L j)).set
  · rw [← Rect.map_emb_univ] at hx
    obtain ⟨y, -, rfl⟩ := Finset.mem_map.mp hx
    obtain ⟨h0, h1⟩ := chunk_emb L j y
    have hy0 : (y 0).val < 128 := (y 0).isLt
    refine (View.write_emb_of_mem (v := (outK L j).view) _ _ (Finset.mem_univ y)).trans ?_
    show FloatOps.subf (φ := .f32) (H ((Rect.unit (s := S32768x128) (k0_off2 L (BitVec.ofNat 32 (128 * j.val))) S128x128.size (k0_off2_inb L j)).emb y))
      (gathered C G (tileNo L) j.val y) = _
    unfold written
    rw [if_pos (by omega)]
    unfold result gathered
    rw [h0]
    exact congrArg (fun k => FloatOps.subf (φ := .f32) _ (C (condAt _ k))) (Fin.ext h1.symm)
  · have hn := fun h => hx (Rect.mem_set_unit.mpr h)
    refine (View.write_of_not_mem (v := (outK L j).view) _ _ Finset.univ ?_).trans ?_
    · show x ∉ ((View.whole (main_v1_scv : Ref sig .scVector)).slice (Rect.unit (s := S32768x128) (k0_off2 L (BitVec.ofNat 32 (128 * j.val))) S128x128.size (k0_off2_inb L j))).set
      rw [View.set_slice]; exact fun h => hx (by simpa using h)
    · rw [Fin.forall_fin_two, k0_off2_eq] at hn
      have h1 : (x 1).val < 128 := (x 1).isLt
      have hn' : ¬ ((2048 * (L 1).val + 1024 * (L 0).val + 128 * j.val ≤ (x 0).val
          ∧ (x 0).val < 2048 * (L 1).val + 1024 * (L 0).val + 128 * j.val + 128) ∧ (0 ≤ (x 1).val ∧ (x 1).val < 0 + 128)) := hn
      unfold written tileNo
      by_cases h : 1024 * (2 * (L 1).val + (L 0).val) ≤ (x 0).val ∧ (x 0).val < 1024 * (2 * (L 1).val + (L 0).val) + 128 * j.val
      · rw [if_pos h, if_pos (by omega)]
      · rw [if_neg h, if_neg (by omega)]

end Views

/-! ## A chunk's run -/

local notation "𝕄" => MT nD τ sig (SparseCore.Cfg.HIx 1) (Elt F) ℕ UU ℕ

section Run

variable (d : Dev nD) (L : grid0.Coords)
variable (H : S32768x128.Idx → Elt F .f32) (C : S2048x128.Idx → Elt F .f32) (G : S256x128.Idx → Elt F .i32) (f : S32768x128.Idx → Elt F .f32)
variable (q : PosShare TreeShare) (S : Finset S32768x128.Idx)
variable (O : CellTallies nD τ sig (SparseCore.Cfg.HIx 1)) (W : Waits sig (SparseCore.Cfg.HIx 1))

/-- What the tile owes, its waits so far those of `W` and waits for its own transfers. -/
abbrev owing : sProp 𝕄 := iprop(∃ W', ⌜∀ p ∈ W', p ∈ W ∨ p.2 = none⌝ ∗ owes (TL d L) O W')

/-- What the tile holds with `n` chunks done: its shares of the hits and the conditions, its ids, the two buffers at some
    contents, its rows `S` of the output with `n` chunks written, and the gather's cell at zero. -/
abbrev held (sg : DmaSems sig S_) (n : Nat) : sProp 𝕄 :=
  iprop(((hitsV).view.loc (TL d L) ↦{q} H) ∗ ((condV).view.loc (TL d L) ↦{q} C) ∗ ((idsV).view.loc (TL d L) ↦{fullShare} tileIds G (tileNo L))
    ∗ (∃ a, (hV).view.loc (TL d L) ↦{fullShare} a) ∗ (∃ b, (gV).view.loc (TL d L) ↦{fullShare} b)
    ∗ ((outV).view.loc (TL d L) ↦[S]{fullShare} written H C G f (tileNo L) n)
    ∗ semVal (TL d L, SemLoc.dma sg.sem) 0 ∗ owing d L O W)

omit [FloatOps F] in
/-- A wait for a transfer adds nothing the launch must know of. -/
theorem owing_step {W' : Waits sig (SparseCore.Cfg.HIx 1)} (h : ∀ p ∈ W', p ∈ W ∨ p.2 = none) (s : SemLoc sig) :
    ∀ p ∈ insert (s, (none : SparseCore.Cfg.HIx 1)) W', p ∈ W ∨ p.2 = none := by
  intro p hp
  rcases Finset.mem_insert.mp hp with rfl | hp
  · exact .inr rfl
  · exact h p hp

set_option maxHeartbeats 1000000 in
/-- A chunk's run: from `j` chunks done to `j + 1`, its two copies' cells at zero before and after. -/
theorem run_chunk (hG : ∀ y, (G y).toNat < 2048) (sg si so : DmaSems sig S_) (j : Fin 8) (hS : (outK L j).view.set ⊆ S) :
    iprop(Transfers.MayWaits (TL d L) (default : SparseCore.Cfg.HIx 1) O ∗ held d L H C G f q S O W sg j.val
        ∗ semVal (TL d L, SemLoc.dma si.sem) 0 ∗ semVal (TL d L, SemLoc.dma so.sem) 0)
      ⊢ wp frame (wpE (defs₀ (F := F)) 𝒱₀ (TL d L) none) Set.univ
          (chunk L hitsV condV outV idsV hV (Memref.isWhole_whole _) gV (Memref.isWhole_whole _) sg si so j)
          fun _ => iprop(held d L H C G f q S O W sg (j.val + 1)
            ∗ semVal (TL d L, SemLoc.dma si.sem) 0 ∗ semVal (TL d L, SemLoc.dma so.sem) 0) := by
  have hN : ∀ h : S2048x128.Gathers 0 S128x128, ∑ k, ((gV).slice (S128x128.rowRect h.axis' k) (S128x128.stride_rowRect h.axis' k)).view.dmaCredit
      = (gV).view.dmaCredit := by decide
  unfold chunk held owing
  simp only [Prog.bind_lift]
  iintro ⟨#Hmw, ⟨Hh, Hc, Hi, ⟨%a, Ha⟩, ⟨%b, Hb⟩, Ho, Hg, %W', %hW, HO⟩, Hsi, Hso⟩
  iapply (SparseCore.wp_gatherFromWhole countersEmb 𝒱₀ (TL d L) none (src := condK) (dst := gV) (offs := lineK j) (hg := gathers_S2048x128_S128x128)
    (default : SparseCore.Cfg.HIx 1) (gV).view.dmaCredit (hN _) (by decide) (line_inb G hG (tileNo L) j)) $$ [Hc Hb Hi Hg]
  · isplitl [Hc]; · iexact Hc
    isplitl [Hb]; · iexact Hb
    isplitl [Hi]; · iexact Hi
    iexact Hg
  iintro Hfg
  rw [payload_eq C G hG]
  iapply (Transfers.wp_dmaFromWhole countersEmb 𝒱₀ (TL d L) none (src := hitsK L j) (dst := hV) (sm := SemLoc.dma si.sem) (Sd := Finset.univ)
    (default : SparseCore.Cfg.HIx 1) _ rfl (View.amount_pos _ _ (show 0 < S128x128.numel by decide)) (Finset.subset_univ _)) $$ [Hh Ha Hsi]
  · isplitl [Hh]; · iexact Hh
    isplitl [Ha]; · iexact Ha
    iexact Hsi
  iintro Hfh
  iapply (Transfers.wp_waitLocalO countersEmb 𝒱₀ (TL d L) none (default : SparseCore.Cfg.HIx 1) rfl) $$ [Hfh HO]
  · isplitl [Hfh]; · iexact Hfh
    isplitl [HO]; · iexact HO
    iapply (Transfers.MayWaits.elim (SemLoc.dma si.sem)) $$ Hmw
  iintro ⟨⟨Ha, Hh⟩, Hsi, HO⟩
  unfold SparseCore.waitIndirectGather
  simp only [Prog.bind_op, Prog.bind_ret]
  iapply (Transfers.wp_waitLocalO countersEmb 𝒱₀ (TL d L) none (default : SparseCore.Cfg.HIx 1) rfl) $$ [Hfg HO]
  · isplitl [Hfg]; · iexact Hfg
    isplitl [HO]; · iexact HO
    iapply (Transfers.MayWaits.elim (SemLoc.dma sg.sem)) $$ Hmw
  iintro ⟨⟨Hb, Hc, Hi⟩, Hg, HO⟩
  ihave Ha := (Entails.of_eq (show ((hV).view.loc (TL d L) ↦{fullShare} (hV).view.write (Elt F) a ((hitsK L j).view.read (Elt F) H) Finset.univ : sProp 𝕄)
      = (hV).view.loc (TL d L) ↦{fullShare} ((hitsK L j).view.read (Elt F) H) from congrArg _ (View.write_whole_univ _ _ _))) $$ Ha
  ihave Hb := (Entails.of_eq (show ((gV).view.loc (TL d L) ↦{fullShare} (gV).view.write (Elt F) b (gathered C G (tileNo L) j.val) Finset.univ : sProp 𝕄)
      = (gV).view.loc (TL d L) ↦{fullShare} (gathered C G (tileNo L) j.val) from congrArg _ (View.write_whole_univ _ _ _))) $$ Hb
  rw [wp_bind]
  iapply (wp_wand_r frame (wpE (defs₀ (F := F)) 𝒱₀ (TL d L) none) Set.univ)
  isplitl [Ha Hb]
  · iapply (run_rows d L ((hitsK L j).view.read (Elt F) H) (gathered C G (tileNo L) j.val))
    isplitl [Ha]; · iexact Ha
    iexact Hb
  iintro %_ ⟨Ha, Hb⟩
  iapply (Transfers.wp_dmaFromWhole countersEmb 𝒱₀ (TL d L) none (src := gV) (dst := outK L j) (sm := SemLoc.dma so.sem) (Sd := S)
    (default : SparseCore.Cfg.HIx 1) _ rfl (View.amount_pos _ _ (show 0 < S128x128.numel by decide)) hS) $$ [Hb Ho Hso]
  · isplitl [Hb]; · iexact Hb
    isplitl [Ho]; · iexact Ho
    iexact Hso
  iintro Hfo
  unfold Prog.lift
  iapply (Transfers.wp_waitLocalO countersEmb 𝒱₀ (TL d L) none (default : SparseCore.Cfg.HIx 1) rfl) $$ [Hfo HO]
  · isplitl [Hfo]; · iexact Hfo
    isplitl [HO]; · iexact HO
    iapply (Transfers.MayWaits.elim (SemLoc.dma so.sem)) $$ Hmw
  iintro ⟨⟨Ho, Hb⟩, Hso, HO⟩
  ihave Ho := (Entails.of_eq (show ((outK L j).view.loc (TL d L) ↦[S]{fullShare} (outK L j).view.write (Elt F) (written H C G f (tileNo L) j.val)
        (ReadAs.same.apply ((gV).view.read (Elt F) (subf (s := S128x128) (φ := .f32) ((hitsK L j).view.read (Elt F) H) (gathered C G (tileNo L) j.val))))
        Finset.univ : sProp 𝕄)
      = (outV).view.loc (TL d L) ↦[S]{fullShare} written H C G f (tileNo L) (j.val + 1) from congrArg _ (write_out L H C G f j))) $$ Ho
  sl_step
  isplitr [Hsi Hso]
  · isplitl [Hh]; · iexact Hh
    isplitl [Hc]; · iexact Hc
    isplitl [Hi]; · iexact Hi
    isplitl [Ha]; · iexists _; iexact Ha
    isplitl [Hb]; · iexists _; iexact Hb
    isplitl [Ho]; · iexact Ho
    isplitl [Hg]; · iexact Hg
    iexists _; isplitr
    swap; · iexact HO
    ipureintro
    exact owing_step W (owing_step W (owing_step W hW _) _) _
  isplitl [Hsi]; · iexact Hsi
  iexact Hso

end Run

end Cert.Proof.OfKernelIdeal

end
-- ==== Proof.TileIdeal.lean ====
/-
  A tile's whole task: the fetch of its ids and its eight chunks, from its shares of the hits, the conditions and the ids
  and its 1024 rows of the output; those rows end at the result.
-/
module

public import proofs.«01_k».proof.Proof.ChunkIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Tactic

variable {F : FTy → Type} [FloatOps F]

local notation "hitsV" => (Memref.whole Cert.KernelIdeal.main_arg0_scv : Memref Cert.KernelIdeal.sig Kind.scVector Space.hbm Cert.KernelIdeal.S32768x128 EltTy.f32)
local notation "condV" => (Memref.whole Cert.KernelIdeal.main_arg1_scv : Memref Cert.KernelIdeal.sig Kind.scVector Space.hbm Cert.KernelIdeal.S2048x128 EltTy.f32)
local notation "gidV" => (Memref.whole Cert.KernelIdeal.main_v0_scv : Memref Cert.KernelIdeal.sig Kind.scVector Space.hbm Cert.KernelIdeal.S256x128 EltTy.i32)
local notation "outV" => (Memref.whole Cert.KernelIdeal.main_v1_scv : Memref Cert.KernelIdeal.sig Kind.scVector Space.hbm Cert.KernelIdeal.S32768x128 EltTy.f32)
local notation "idsV" => (Memref.whole Cert.KernelIdeal.cc0_scratch0 : Memref Cert.KernelIdeal.sig Kind.scVector Space.vmem Cert.KernelIdeal.S8x128 EltTy.i32)
local notation "hV" => (Memref.whole Cert.KernelIdeal.cc0_scratch1 : Memref Cert.KernelIdeal.sig Kind.scVector Space.vmem Cert.KernelIdeal.S128x128 EltTy.f32)
local notation "gV" => (Memref.whole Cert.KernelIdeal.cc0_scratch2 : Memref Cert.KernelIdeal.sig Kind.scVector Space.vmem Cert.KernelIdeal.S128x128 EltTy.f32)

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The launch's constants fit: its semaphores are distinct and of the right scope, and no array is a core's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's rows of the output -/

/-- The elements of the 1024 rows of tile `w`. -/
def rowsOf (w : Nat) : Finset S32768x128.Idx :=
  Finset.univ.filter fun x => 1024 * w ≤ (x 0).val ∧ (x 0).val < 1024 * w + 1024

/-- An element is of tile `w` where its row is one of the tile's 1024. -/
theorem mem_rowsOf {w : Nat} {x : S32768x128.Idx} : x ∈ rowsOf w ↔ 1024 * w ≤ (x 0).val ∧ (x 0).val < 1024 * w + 1024 := by
  simp [rowsOf]

/-- Distinct tiles' rows are disjoint. -/
theorem rowsOf_disjoint {w w' : Nat} (h : w ≠ w') : Disjoint (rowsOf w) (rowsOf w') :=
  Finset.disjoint_left.mpr fun x h1 h2 => h (by have := mem_rowsOf.mp h1; have := mem_rowsOf.mp h2; omega)

/-- The 32 tiles' rows are all the rows. -/
theorem rowsOf_cover : ((Finset.univ : Finset (Fin 32)).biUnion fun w => rowsOf w.val) = Finset.univ := by
  ext x
  have hx : (x 0).val < 32768 := (x 0).isLt
  simp only [Finset.mem_biUnion, Finset.mem_univ, true_and, iff_true]
  generalize hn : (x 0).val = n at hx
  exact ⟨⟨n / 1024, by omega⟩, mem_rowsOf.mpr (by rw [hn]; show 1024 * (n / 1024) ≤ n ∧ n < 1024 * (n / 1024) + 1024; omega)⟩

/-- A chunk's rows are the tile's. -/
theorem outK_subset (L : grid0.Coords) (j : Fin 8) : (outK L j).view.set ⊆ rowsOf (tileNo L) := by
  show ((View.whole (main_v1_scv : Ref sig .scVector)).slice
    (Rect.unit (s := S32768x128) (k0_off2 L (BitVec.ofNat 32 (128 * j.val))) S128x128.size (k0_off2_inb L j))).set ⊆ _
  rw [View.set_slice]
  intro x hx
  obtain ⟨z, hz, rfl⟩ := Finset.mem_map.mp hx
  rw [← Rect.map_emb_univ] at hz
  obtain ⟨y, -, rfl⟩ := Finset.mem_map.mp hz
  have hy : (y 0).val < 128 := (y 0).isLt
  have hj := j.isLt
  obtain ⟨h0, -⟩ := chunk_emb L j y
  refine mem_rowsOf.mpr ?_
  show 1024 * tileNo L ≤ (((Rect.unit (s := S32768x128) (k0_off2 L (BitVec.ofNat 32 (128 * j.val))) S128x128.size (k0_off2_inb L j)).emb y) 0).val ∧ _
  constructor
  · rw [h0]; omega
  · show (((Rect.unit (s := S32768x128) (k0_off2 L (BitVec.ofNat 32 (128 * j.val))) S128x128.size (k0_off2_inb L j)).emb y) 0).val < _
    rw [h0]; omega

/-- On a tile's rows, all eight chunks written is the result. -/
theorem written_eight (H : S32768x128.Idx → Elt F .f32) (C : S2048x128.Idx → Elt F .f32) (G : S256x128.Idx → Elt F .i32)
    (f : S32768x128.Idx → Elt F .f32) (w : Nat) : ∀ x ∈ rowsOf w, written H C G f w 8 x = result H C G x := by
  intro x hx
  have := mem_rowsOf.mp hx
  unfold written
  rw [if_pos (by omega)]

/-! ## The cells and the buffers of a tile -/

section Tile

variable (d : Dev nD) (L : grid0.Coords)

/-- A tile's transfer cells, by number. -/
def cellOf : Fin 18 ↪ GSem nD τ sig :=
  ⟨fun n => (TL d L, SemLoc.dma n), fun a b h => by
    have h2 := (Prod.mk.inj h).2
    exact SemLoc.dma.inj h2⟩

/-- The tile's cells are its eighteen transfer cells, each at zero, and the rest. -/
theorem ownSems0_tile :
    (ownSems0 (TL d L) : sProp 𝕄)
      = iprop((bigSep Finset.univ fun n : Fin 18 => semVal (TL d L, SemLoc.dma n) 0)
          ∗ bigSep (ownCells (TL d L) \ Finset.univ.map (cellOf d L)) fun g => semVal g 0) := by
  unfold SparseCore.Cfg.ownSems0
  rw [SparseCore.bigSep_sdiff_split' (s := ownCells (TL d L)) (t := Finset.univ.map (cellOf d L)) ?_, BI.bigSep_map]
  · rfl
  · intro g hg
    obtain ⟨n, _, rfl⟩ := Finset.mem_map.mp hg
    refine mem_ownCells.mpr ⟨rfl, ?_⟩
    show (SemLoc.dma n : SemLoc sig).isScoped .scVector = true
    exact (show ∀ n : Fin 18, (SemLoc.dma n : SemLoc sig).isScoped .scVector = true by decide) n

/-- A product over eighteen is its eighteen factors. -/
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- The tile's buffers are its three scratch buffers, at some contents, and the rest. -/
theorem ownBufs_tile :
    (ownBufs (TL d L) : sProp 𝕄)
      = iprop((∃ f, (TL d L).loc cc0_scratch0 ↦{fullShare} f) ∗ (∃ f, (TL d L).loc cc0_scratch1 ↦{fullShare} f)
          ∗ (∃ f, (TL d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hmem : ∀ b : Ref sig .scVector, ((Proc.scVector (cV L) (jV L)).devRef b).owner = .proc (Proc.scVector (cV L) (jV L))
      → (Proc.scVector (cV L) (jV L)).devRef b ∈ ownRefs (τ := τ) (.scVector (cV L) (jV L)) :=
    fun b h => SparseCore.Cfg.mem_ownRefs_of_owner (p := Proc.scVector (cV L) (jV L)) h
  have hne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (hmem cc0_scratch0 rfl)).trans ?_
  rw [SparseCore.bigSep_erase' (Finset.mem_erase.mpr ⟨hne cc0_scratch1 cc0_scratch0 (by decide), hmem cc0_scratch1 rfl⟩),
    SparseCore.bigSep_erase' (Finset.mem_erase.mpr ⟨hne cc0_scratch2 cc0_scratch1 (by decide),
      Finset.mem_erase.mpr ⟨hne cc0_scratch2 cc0_scratch0 (by decide), hmem cc0_scratch2 rfl⟩⟩)]

/-! ## The task -/

variable (H : S32768x128.Idx → Elt F .f32) (C : S2048x128.Idx → Elt F .f32) (G : S256x128.Idx → Elt F .i32)
variable (q : PosShare TreeShare)

/-- What a tile is handed: a share of the hits, of the conditions and of the ids, and its rows of the output at `f`. -/
abbrev tileRes (f : S32768x128.Idx → Elt F .f32) : sProp 𝕄 :=
  iprop(((hitsV).view.loc (TL d L) ↦{q} H) ∗ ((condV).view.loc (TL d L) ↦{q} C) ∗ ((gidV).view.loc (TL d L) ↦{q} G)
    ∗ ((outV).view.loc (TL d L) ↦[rowsOf (tileNo L)]{fullShare} f))

variable (f : S32768x128.Idx → Elt F .f32)
variable (O : CellTallies nD τ sig (HIx 1)) (W : Waits sig (HIx 1))

/-- The fetch: the tile's ids land in its first buffer. -/
theorem run_fetch (sm : DmaSems sig S_) (g : S8x128.Idx → Elt F .i32) :
    iprop(Transfers.MayWaits (TL d L) (default : HIx 1) O ∗ ((gidV).view.loc (TL d L) ↦{q} G) ∗ ((idsV).view.loc (TL d L) ↦{fullShare} g)
        ∗ semVal (TL d L, SemLoc.dma sm.sem) 0 ∗ owing d L O W)
      ⊢ wp frame (wpE (defs₀ (F := F)) 𝒱₀ (TL d L) none) Set.univ (fetch L gidV idsV (Memref.isWhole_whole _) sm)
          fun _ => iprop(((gidV).view.loc (TL d L) ↦{q} G) ∗ ((idsV).view.loc (TL d L) ↦{fullShare} tileIds G (tileNo L))
            ∗ semVal (TL d L, SemLoc.dma sm.sem) 0 ∗ owing d L O W) := by
  unfold fetch owing
  simp only [Prog.bind_lift]
  unfold Prog.lift
  iintro ⟨#Hmw, Hg, Hi, Hs, %W', %hW, HO⟩
  iapply (Transfers.wp_dmaFromWhole countersEmb 𝒱₀ (TL d L) none (src := gidK L) (dst := idsV) (sm := SemLoc.dma sm.sem) (Sd := Finset.univ)
    (default : HIx 1) _ rfl (View.amount_pos _ _ (show 0 < S8x128.numel by decide)) (Finset.subset_univ _)) $$ [Hg Hi Hs]
  · isplitl [Hg]; · iexact Hg
    isplitl [Hi]; · iexact Hi
    iexact Hs
  iintro Hf
  iapply (Transfers.wp_waitLocalO countersEmb 𝒱₀ (TL d L) none (default : HIx 1) rfl) $$ [Hf HO]
  · isplitl [Hf]; · iexact Hf
    isplitl [HO]; · iexact HO
    iapply (Transfers.MayWaits.elim (SemLoc.dma sm.sem)) $$ Hmw
  iintro ⟨⟨Hi, Hg⟩, Hs, HO⟩
  ihave Hi := (Entails.of_eq (show ((idsV).view.loc (TL d L) ↦{fullShare} (idsV).view.write (Elt F) g (ReadAs.same.apply ((gidK L).view.read (Elt F) G)) Finset.univ : sProp 𝕄)
      = (idsV).view.loc (TL d L) ↦{fullShare} tileIds G (tileNo L) from
        congrArg _ ((View.write_whole_univ _ _ _).trans (read_gid L G)))) $$ Hi
  sl_step
  isplitl [Hg]; · iexact Hg
  isplitl [Hi]; · iexact Hi
  isplitl [Hs]; · iexact Hs
  iexists _; isplitr
  swap; · iexact HO
  ipureintro
  exact owing_step W hW _

/-- A chunk, then the rest of the task. -/
theorem chunk_then (hG : ∀ y, (G y).toNat < 2048) {α : Type} (S : Finset S32768x128.Idx) (sg si so : DmaSems sig S_) (j : Fin 8)
    (hS : (outK L j).view.set ⊆ S) (k : PUnit → Prog _ α) (Q : α → sProp 𝕄) :
    iprop(Transfers.MayWaits (TL d L) (default : HIx 1) O ∗ held d L H C G f q S O W sg j.val
        ∗ semVal (TL d L, SemLoc.dma si.sem) 0 ∗ semVal (TL d L, SemLoc.dma so.sem) 0
        ∗ (held d L H C G f q S O W sg (j.val + 1) ∗ semVal (TL d L, SemLoc.dma si.sem) 0 ∗ semVal (TL d L, SemLoc.dma so.sem) 0
            -∗ wp frame (wpE (defs₀ (F := F)) 𝒱₀ (TL d L) none) Set.univ (k ⟨⟩) Q))
      ⊢ wp frame (wpE (defs₀ (F := F)) 𝒱₀ (TL d L) none) Set.univ
          ((chunk L hitsV condV outV idsV hV (Memref.isWhole_whole _) gV (Memref.isWhole_whole _) sg si so j) >>= k) Q := by
  rw [wp_bind]
  iintro ⟨#Hmw, Hh, Hi, Ho, Hk⟩
  iapply (wp_wand_r frame (wpE (defs₀ (F := F)) 𝒱₀ (TL d L) none) Set.univ)
  isplitl [Hh Hi Ho]
  · iapply (run_chunk d L H C G f q S O W hG sg si so j hS)
    isplitr; · iexact Hmw
    isplitl [Hh]; · iexact Hh
    isplitl [Hi]; · iexact Hi
    iexact Ho
  iintro %_ H
  iapply Hk $$ H

set_option maxHeartbeats 4000000 in
/-- The task: the tile's rows of the output end at the result, all else as it was. -/
theorem run_tile (hF : (K (F := F)).Facts) (hG : ∀ y, (G y).toNat < 2048) (hO : ∀ g, O g none = 0) :
    iprop(levAts (K (F := F)).L (K (F := F)).lev ∗ emp ∗ tileRes d L H C G q f
        ∗ scopedBufs (TL d L) ∗ scopedSems0 (TL d L) ∗ owes (TL d L) O W)
      ⊢ wp frame (wpE (defs₀ (F := F)) 𝒱₀ (TL d L) none) Set.univ
          (cc0__sc_body L hitsV (Memref.isWhole_whole _) condV (Memref.isWhole_whole _) gidV (Memref.isWhole_whole _) outV (Memref.isWhole_whole _)
            idsV (Memref.isWhole_whole _) hV (Memref.isWhole_whole _) gV (Memref.isWhole_whole _) cc0_scratch3 cc0_scoped0 cc0_scoped1 cc0_scoped2 cc0_scoped3
            cc0_scoped4 cc0_scoped5 cc0_scoped6 cc0_scoped7 cc0_scoped8 cc0_scoped9 cc0_scoped10 cc0_scoped11 cc0_scoped12 cc0_scoped13 cc0_scoped14
            cc0_scoped15 cc0_scoped16)
          fun _ => iprop(tileRes d L H C G q (result H C G) ∗ scopedBufs (TL d L) ∗ scopedSems0 (TL d L) ∗ owing d L O W) := by
  rw [body_eq, (K (F := F)).scopedBufs_V hF d (cV L) (jV L), SparseCore.Cfg.scopedSems0_V (Val := Elt F) d (cV L) (jV L), ownSems0_tile, ownBufs_tile, bigSep_fin18]
  iintro ⟨#Hlv, -, ⟨Hh, Hc, Hg, Ho⟩, ⟨⟨%fi, Hi⟩, Ha, Hb, Hbufs⟩,
    ⟨⟨Hs, H0, H1, H2, H3, H4, H5, H6, H7, H8, H9, H10, H11, H12, H13, H14, H15, H16⟩, Hsems⟩, HO⟩
  ihave #Hmw := (show levAts (K (F := F)).L (K (F := F)).lev ⊢ Transfers.MayWaits (TL d L) (default : HIx 1) O from
    (K (F := F)).mayWaits_none (thr := TL d L) hO) $$ Hlv
  rw [wp_bind]
  iapply (wp_wand_r frame (wpE (defs₀ (F := F)) 𝒱₀ (TL d L) none) Set.univ)
  isplitl [Hg Hi H0 HO]
  · iapply (run_fetch d L G q O W cc0_scoped0 fi)
    isplitr; · iexact Hmw
    isplitl [Hg]; · iexact Hg
    isplitl [Hi]; · iexact Hi
    isplitl [H0]; · iexact H0
    iexists W; isplitr
    · ipureintro; exact fun p hp => .inl hp
    · iexact HO
  iintro %_ ⟨Hg, Hi, H0, HO⟩
  ihave Hheld : held d L H C G f q (rowsOf (tileNo L)) O W cc0_scratch3 0 $$ [Hh Hc Hi Ha Hb Ho Hs HO]
  · isplitl [Hh]; · iexact Hh
    isplitl [Hc]; · iexact Hc
    isplitl [Hi]; · iexact Hi
    isplitl [Ha]; · iexact Ha
    isplitl [Hb]; · iexact Hb
    isplitl [Ho]; · rw [written_zero]; iexact Ho
    isplitl [Hs]; · iexact Hs
    iexact HO
  iapply (chunk_then d L H C G q f O W hG (rowsOf (tileNo L)) cc0_scratch3 cc0_scoped1 cc0_scoped2 0 (outK_subset L 0))
  isplitr; · iexact Hmw
  isplitl [Hheld]; · iexact Hheld
  isplitl [H1]; · iexact H1
  isplitl [H2]; · iexact H2
  iintro ⟨Hheld, H1, H2⟩
  iapply (chunk_then d L H C G q f O W hG (rowsOf (tileNo L)) cc0_scratch3 cc0_scoped3 cc0_scoped4 1 (outK_subset L 1))
  isplitr; · iexact Hmw
  isplitl [Hheld]; · iexact Hheld
  isplitl [H3]; · iexact H3
  isplitl [H4]; · iexact H4
  iintro ⟨Hheld, H3, H4⟩
  iapply (chunk_then d L H C G q f O W hG (rowsOf (tileNo L)) cc0_scratch3 cc0_scoped5 cc0_scoped6 2 (outK_subset L 2))
  isplitr; · iexact Hmw
  isplitl [Hheld]; · iexact Hheld
  isplitl [H5]; · iexact H5
  isplitl [H6]; · iexact H6
  iintro ⟨Hheld, H5, H6⟩
  iapply (chunk_then d L H C G q f O W hG (rowsOf (tileNo L)) cc0_scratch3 cc0_scoped7 cc0_scoped8 3 (outK_subset L 3))
  isplitr; · iexact Hmw
  isplitl [Hheld]; · iexact Hheld
  isplitl [H7]; · iexact H7
  isplitl [H8]; · iexact H8
  iintro ⟨Hheld, H7, H8⟩
  iapply (chunk_then d L H C G q f O W hG (rowsOf (tileNo L)) cc0_scratch3 cc0_scoped9 cc0_scoped10 4 (outK_subset L 4))
  isplitr; · iexact Hmw
  isplitl [Hheld]; · iexact Hheld
  isplitl [H9]; · iexact H9
  isplitl [H10]; · iexact H10
  iintro ⟨Hheld, H9, H10⟩
  iapply (chunk_then d L H C G q f O W hG (rowsOf (tileNo L)) cc0_scratch3 cc0_scoped11 cc0_scoped12 5 (outK_subset L 5))
  isplitr; · iexact Hmw
  isplitl [Hheld]; · iexact Hheld
  isplitl [H11]; · iexact H11
  isplitl [H12]; · iexact H12
  iintro ⟨Hheld, H11, H12⟩
  iapply (chunk_then d L H C G q f O W hG (rowsOf (tileNo L)) cc0_scratch3 cc0_scoped13 cc0_scoped14 6 (outK_subset L 6))
  isplitr; · iexact Hmw
  isplitl [Hheld]; · iexact Hheld
  isplitl [H13]; · iexact H13
  isplitl [H14]; · iexact H14
  iintro ⟨Hheld, H13, H14⟩
  iapply (wp_wand_r frame (wpE (defs₀ (F := F)) 𝒱₀ (TL d L) none) Set.univ)
  isplitl [Hheld H15 H16]
  · iapply (run_chunk d L H C G f q (rowsOf (tileNo L)) O W hG cc0_scratch3 cc0_scoped15 cc0_scoped16 7 (outK_subset L 7))
    isplitr; · iexact Hmw
    isplitl [Hheld]; · iexact Hheld
    isplitl [H15]; · iexact H15
    iexact H16
  iintro %_ ⟨⟨Hh, Hc, Hi, Ha, Hb, Ho, Hs, HO⟩, H15, H16⟩
  isplitl [Hh Hc Hg Ho]
  · isplitl [Hh]; · iexact Hh
    isplitl [Hc]; · iexact Hc
    isplitl [Hg]; · iexact Hg
    iapply (Entails.of_eq (pointsTo_congr (written_eight H C G f (tileNo L)))) $$ Ho
  isplitl [Hi Ha Hb Hbufs]
  · isplitl [Hi]; · iexists _; iexact Hi
    isplitl [Ha]; · iexact Ha
    isplitl [Hb]; · iexact Hb
    iexact Hbufs
  isplitr [HO]
  swap; · iexact HO
  isplitr [Hsems]
  swap; · iexact Hsems
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Tile

end Cert.Proof.OfKernelIdeal

end
-- ==== Proof.LaunchIdeal.lean ====
/-
  The whole program's run: the ids reshaped by the host, the 32 tiles launched, each on its share of the inputs and its
  1024 rows of the output; the arguments end as they began and the output at the result.
-/
module

public import proofs.«01_k».proof.Proof.TileIdeal

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Tactic

variable {F : FTy → Type} [FloatOps F]

local notation "𝕄" => MT nD τ sig (HIx 1) (Elt F) ℕ UU ℕ

abbrev EH : Emb UH (MT nD τ sig (HIx 1) (Elt F) ℕ UU ℕ) := embL

abbrev hitsLoc (d : Dev nD) : Loc nD τ sig := (SparseCore.T d).loc main_arg0
abbrev condLoc (d : Dev nD) : Loc nD τ sig := (SparseCore.T d).loc main_arg1
abbrev idsLoc (d : Dev nD) : Loc nD τ sig := (SparseCore.T d).loc main_arg2
abbrev gidLoc (d : Dev nD) : Loc nD τ sig := (SparseCore.T d).loc main_v0
abbrev outLoc (d : Dev nD) : Loc nD τ sig := (SparseCore.T d).loc main_v1

variable (m : (ℓ : Loc nD τ sig) → Buf (Elt F) ℓ) (ρ : Dev nD → PrngReg)

/-- The ids as the kernel reads them, 256 rows of 128. -/
def gids (d : Dev nD) : S256x128.Idx → Elt F .i32 :=
  shapeCast S256x128 (m (idsLoc d)) shapeCasts_S32768_S256x128

/-- The result the run leaves on device `d`. -/
def outOf (d : Dev nD) : S32768x128.Idx → Elt F .f32 := result (m (hitsLoc d)) (m (condLoc d)) (gids m d)

/-- What the run asks of the launch memory: every id names a row of the conditions. -/
def PreOK : Prop := ∀ (d : Dev nD) (n : S32768.Idx), (m (idsLoc d) n).toNat < 2048

/-- Every reshaped id is an id, so in range. -/
theorem gids_lt (h : PreOK m) (d : Dev nD) (y : S256x128.Idx) : (gids m d y).toNat < 2048 := h d _

/-! ## What each tile is handed, and hands back -/

/-- Tile `w`'s share of the inputs and its rows of the output, these at `f`. -/
def shareOf (d : Dev nD) (f : S32768x128.Idx → Elt F .f32) (w : Fin 32) : sProp 𝕄 :=
  iprop((hitsLoc d ↦{leaf 5 fullShare w} m (hitsLoc d)) ∗ (condLoc d ↦{leaf 5 fullShare w} m (condLoc d))
    ∗ (gidLoc d ↦{leaf 5 fullShare w} gids m d) ∗ (outLoc d ↦[rowsOf w.val]{fullShare} f))

instance shareOf_storable (d : Dev nD) (f : S32768x128.Idx → Elt F .f32) (w : Fin 32) :
    BI.Storable (upEmb : UEmb _ 𝕄) (shareOf m d f w) := by
  unfold shareOf; infer_instance

/-- The tile number of subcore `s` of core `c`. -/
def numOf (c : Fin 2) (s : Fin 16) : Fin 32 := ⟨2 * s.val + c.val, by omega⟩

/-- All of the inputs, and all of the output at `f`. -/
def allOf (d : Dev nD) (f : S32768x128.Idx → Elt F .f32) : sProp 𝕄 :=
  iprop((hitsLoc d ↦{fullShare} m (hitsLoc d)) ∗ (condLoc d ↦{fullShare} m (condLoc d))
    ∗ (gidLoc d ↦{fullShare} gids m d) ∗ (outLoc d ↦{fullShare} f))

/-- The whole is the 32 tiles' shares, core by core. -/
theorem allOf_split (d : Dev nD) (f : S32768x128.Idx → Elt F .f32) :
    allOf m d f = bigSep Finset.univ fun c : Fin 2 => bigSep Finset.univ fun s : Fin 16 => shareOf m d f (numOf c s) := by
  have hout : (outLoc d ↦{fullShare} f : sProp 𝕄) = bigSep Finset.univ fun w : Fin 32 => outLoc d ↦[rowsOf w.val]{fullShare} f := by
    rw [← pointsTo_biUnion Finset.univ (ℓ := outLoc d) (fun w : Fin 32 => rowsOf w.val)
      (fun a _ b _ h => rowsOf_disjoint fun e => h (Fin.ext e)), rowsOf_cover]; try rfl
  have e32 : allOf m d f = bigSep Finset.univ fun w : Fin 32 => shareOf m d f w := by
    unfold allOf shareOf
    rw [bigSep_sep', bigSep_sep', bigSep_sep', hout, pointsTo_leaves Finset.univ (m (hitsLoc d)) 5 fullShare,
      pointsTo_leaves Finset.univ (m (condLoc d)) 5 fullShare, pointsTo_leaves (ℓ := gidLoc d) Finset.univ (gids m d) 5 fullShare]
    rfl
  rw [e32, bigSep_univ_equiv ((Equiv.prodComm (Fin 2) (Fin 16)).trans finProdFinEquiv) (fun w : Fin 32 => shareOf m d f w), bigSep_univ_prod]
  refine bigSep_congr fun c _ => bigSep_congr fun s _ => congrArg _ (Fin.ext ?_)
  show c.val + 2 * s.val = 2 * s.val + c.val
  omega

/-- The call runs on two cores. -/
theorem nCore_zero : (K (F := F)).nCore 0 = 2 := rfl
/-- The call runs on sixteen subcores of each core. -/
theorem nSub_zero : (K (F := F)).nSub 0 = 16 := rfl

/-- The launch: each core takes and returns its sixteen tiles' shares, the output's rows from the launch contents to the result. -/
def P : (K (F := F)).Pay (nD := nD) (Val := Elt F) (Name := ℕ) (U := UU) where
  st := fun q d c => match q with
    | 0 => bigSep Finset.univ fun s : Fin ((K (F := F)).nSub 0) => shareOf m d (m (outLoc d)) (numOf (Fin.cast nCore_zero c) (Fin.cast nSub_zero s))
  dn := fun q d c => match q with
    | 0 => bigSep Finset.univ fun s : Fin ((K (F := F)).nSub 0) => shareOf m d (outOf m d) (numOf (Fin.cast nCore_zero c) (Fin.cast nSub_zero s))
  go := fun q d c s => match q with
    | 0 => shareOf m d (m (outLoc d)) (numOf (Fin.cast nCore_zero c) (Fin.cast nSub_zero s))
  td := fun q d c s => match q with
    | 0 => shareOf m d (outOf m d) (numOf (Fin.cast nCore_zero c) (Fin.cast nSub_zero s))
  x := fun _ _ => iprop(emp)

instance P_storable : (P (F := F) m).IsStorable where
  st q d c := match q with
    | 0 => (inferInstance : BI.Storable (upEmb : UEmb _ 𝕄)
      (bigSep Finset.univ fun s : Fin ((K (F := F)).nSub 0) => shareOf m d (m (outLoc d)) (numOf (Fin.cast nCore_zero c) (Fin.cast nSub_zero s))))
  dn q d c := match q with
    | 0 => (inferInstance : BI.Storable (upEmb : UEmb _ 𝕄)
      (bigSep Finset.univ fun s : Fin ((K (F := F)).nSub 0) => shareOf m d (outOf m d) (numOf (Fin.cast nCore_zero c) (Fin.cast nSub_zero s))))
  go q d c s := match q with
    | 0 => (inferInstance : BI.Storable (upEmb : UEmb _ 𝕄) (shareOf m d (m (outLoc d)) (numOf (Fin.cast nCore_zero c) (Fin.cast nSub_zero s))))
  td q d c s := match q with
    | 0 => (inferInstance : BI.Storable (upEmb : UEmb _ 𝕄) (shareOf m d (outOf m d) (numOf (Fin.cast nCore_zero c) (Fin.cast nSub_zero s))))

/-! ## The task as the launch asks for it -/

/-- The grid coordinates of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body a tile runs is the kernel at its coordinates. -/
theorem defs₀_vector (c : Fin τ.nSC) (s : Fin τ.nSub) :
    defs₀ (F := F) (.scVector c s) 0 ()
      = SparseCore.onTile hcore0 hsub0 (fun c s => cc0__sc_body (coordsV c s)
          (Memref.whole main_arg0_scv) (Memref.isWhole_whole _) (Memref.whole main_arg1_scv) (Memref.isWhole_whole _)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scoped0 cc0_scoped1 cc0_scoped2 cc0_scoped3
            cc0_scoped4 cc0_scoped5 cc0_scoped6 cc0_scoped7 cc0_scoped8 cc0_scoped9 cc0_scoped10 cc0_scoped11 cc0_scoped12 cc0_scoped13 cc0_scoped14
            cc0_scoped15 cc0_scoped16) ⟨⟩ c s := rfl

/-- What a task leaves owing is what the launch lets it leave. -/
theorem obl_post {d : Dev nD} {L : grid0.Coords} {A B C : sProp 𝕄} {O : CellTallies nD τ sig (HIx 1)} {W : Waits sig (HIx 1)} {q : Fin 1} :
    iprop(A ∗ B ∗ C ∗ owing d L O W)
      ⊢ iprop(A ∗ B ∗ C ∗ ∃ W', ⌜∀ p ∈ W', p ∈ W ∨ p.2 = none ∨ p.2 = some q⌝ ∗ owes (TL d L) O W') := by
  unfold owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task meets the launch's demand of it: its share in, its share with its rows at the result out. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (run_tile d (coordsV ⟨_, hci.1⟩ ⟨_, hci.2⟩) (m (hitsLoc d)) (m (condLoc d)) (gids m d)
    (leaf 5 fullShare (numOf (Fin.cast nCore_zero c) (Fin.cast nSub_zero i))) (m (outLoc d)) O W hF (gids_lt m hpre d) hO).trans
      (wp_mono frame _ _ fun _ => obl_post)

/-- A core's part is its tiles' parts, both ways. -/
theorem vecSplit : (K (F := F)).VecSplit' (P m) 0 := by
  intro d c
  show (bigSep Finset.univ fun s : Fin ((K (F := F)).nSub 0) => shareOf m d (m (outLoc d)) (numOf (Fin.cast nCore_zero c) (Fin.cast nSub_zero s)))
    ⊢ |={Set.univ}=> iprop(
      (bigSep Finset.univ fun s : Fin ((K (F := F)).nSub 0) => shareOf m d (m (outLoc d)) (numOf (Fin.cast nCore_zero c) (Fin.cast nSub_zero s)))
      ∗ ((bigSep Finset.univ fun s : Fin ((K (F := F)).nSub 0) => shareOf m d (outOf m d) (numOf (Fin.cast nCore_zero c) (Fin.cast nSub_zero s)))
          -∗ (bigSep Finset.univ fun s : Fin ((K (F := F)).nSub 0) => shareOf m d (outOf m d) (numOf (Fin.cast nCore_zero c) (Fin.cast nSub_zero s)))))
  iintro H; imodintro
  isplitl [H]; · iexact H
  iintro H; iexact H

/-! ## The launch's ghost state -/

/-- The launch's ghost element: the handshakes' tokens, and no counter beside them. -/
def u₀ : UU := (initOf (K (F := F)).hsCells (K (F := F)).hsToks, 1)

/-- A product of nothing is nothing. -/
theorem bigSep_emp' {I : Type} (s : Finset I) : (bigSep s fun _ => iprop(emp)) = (iprop(emp) : sProp 𝕄) := bigSep_emp_const s

/-- The ghost element yields the handshakes' start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

abbrev bHits : DevRef τ sig := Proc.devRef .tc (main_arg0 : Ref sig .tc)
abbrev bCond : DevRef τ sig := Proc.devRef .tc (main_arg1 : Ref sig .tc)
abbrev bIds : DevRef τ sig := Proc.devRef .tc (main_arg2 : Ref sig .tc)
abbrev bGid : DevRef τ sig := Proc.devRef .tc (main_v0 : Ref sig .tc)
abbrev bOut : DevRef τ sig := Proc.devRef .tc (main_v1 : Ref sig .tc)
abbrev opReshape : HloOp τ sig (Elt F) := StableHlo.reshape main_arg2 main_v0 rfl shapeCasts_S32768_S256x128

/-- The host's arrays. -/
abbrev S5 : Finset (DevRef τ sig) := {bHits, bCond, bIds, bGid, bOut}

/-- The host's arrays held at once are the five held each. -/
theorem held_S5 (d : Dev nD) (W : Valuation τ sig (Elt F)) :
    (StableHlo.held (T d) S5 W : sProp 𝕄) = iprop((hitsLoc d ↦{fullShare} W bHits) ∗ (condLoc d ↦{fullShare} W bCond)
      ∗ (idsLoc d ↦{fullShare} W bIds) ∗ (gidLoc d ↦{fullShare} W bGid) ∗ outLoc d ↦{fullShare} W bOut) := by
  unfold StableHlo.held S5
  rw [SparseCore.bigSep_insert' (by decide), SparseCore.bigSep_insert' (by decide), SparseCore.bigSep_insert' (by decide),
    SparseCore.bigSep_insert' (by decide), bigSep_singleton]

/-- The host's arrays at the launch are these five. -/
theorem unscopedBufs_eq (d : Dev nD) (W : (b : Ref sig .tc) → Buf (Elt F) ((d.tc : Thread nD τ).loc b)) :
    (unscopedBufs d W : sProp 𝕄) = iprop((hitsLoc d ↦{fullShare} W main_arg0) ∗ (condLoc d ↦{fullShare} W main_arg1)
      ∗ (idsLoc d ↦{fullShare} W main_arg2) ∗ (gidLoc d ↦{fullShare} W main_v0) ∗ outLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- The arrays' contents at the launch. -/
def V0 (d : Dev nD) : Valuation τ sig (Elt F) := fun b => m (d, b)

/-- At the launch they are held at the launch's contents. -/
theorem unscoped_held (d : Dev nD) : (unscopedBufs d (fun b => m ((SparseCore.T d).loc b)) : sProp 𝕄) = StableHlo.held (T d) S5 (V0 m d) := by
  rw [unscopedBufs_eq, held_S5]; rfl

/-- The reshape touches the host's arrays only. -/
theorem opReshape_bufs : (opReshape (F := F)).bufs ⊆ S5 := show ({bIds, bGid} : Finset (DevRef τ sig)) ⊆ S5 by decide

/-- After the reshape: the ids in rows of 128, the other arrays as at the launch. -/
theorem held_reshaped (d : Dev nD) :
    (StableHlo.held (T d) S5 ((opReshape (F := F)).result (V0 m d)) : sProp 𝕄)
      = iprop((hitsLoc d ↦{fullShare} m (hitsLoc d)) ∗ (condLoc d ↦{fullShare} m (condLoc d))
        ∗ (idsLoc d ↦{fullShare} m (idsLoc d)) ∗ (gidLoc d ↦{fullShare} gids m d) ∗ outLoc d ↦{fullShare} m (outLoc d)) := by
  rw [held_S5, StableHlo.reshape_result', StableHlo.reshape_result_ne', StableHlo.reshape_result_ne', StableHlo.reshape_result_ne', StableHlo.reshape_result_ne']
  · rfl
  all_goals decide

/-- What the two cores take is all of the inputs and of the output, as launched. -/
theorem st0_eq (d : Dev nD) : (bigSep Finset.univ fun c : Fin ((K (F := F)).nCore 0) => (P m).st 0 d c) = allOf m d (m (outLoc d)) :=
  (allOf_split m d _).symm
/-- What they hand back is the same with the output at the result. -/
theorem dn0_eq (d : Dev nD) : (bigSep Finset.univ fun c : Fin ((K (F := F)).nCore 0) => (P m).dn 0 d c) = allOf m d (outOf m d) :=
  (allOf_split m d _).symm

/-- What the host's program ends with: the arguments as they began, the output at the result. -/
abbrev FIN (d : Dev nD) : sProp 𝕄 :=
  iprop((hitsLoc d ↦{fullShare} m (hitsLoc d)) ∗ (condLoc d ↦{fullShare} m (condLoc d)) ∗ (idsLoc d ↦{fullShare} m (idsLoc d))
    ∗ outLoc d ↦{fullShare} outOf m d)

/-- The host's program: the reshape, then the call; the arguments kept, the output at the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opReshape) (S := S5) opReshape_bufs (V := V0 m d)) $$ [Hb Hheld]
  · isplitl [Hb]; · iexact Hb
    iexact Hheld
  iintro ⟨Hb, Hheld⟩
  ihave Hh := (Entails.of_eq (held_reshaped (F := F) m d)) $$ Hheld
  icases Hh with ⟨Hh, Hc, Hi, Hg, Ho⟩
  rw [wp_ret]; imodintro
  iapply ((K (F := F)).wp_run (D (F := F)) 𝒱 (EH := EH) (P := P m) κ d 0) $$ [Hst Hh Hc Hg Ho Hi Hb Hts]
  isplitr; · iexact Hctx
  isplitl [Hst]; · iexact Hst
  isplitl [Hh Hc Hg Ho]
  · rw [st0_eq]; unfold allOf
    isplitl [Hh]; · iexact Hh
    isplitl [Hc]; · iexact Hc
    isplitl [Hg]; · iexact Hg
    iexact Ho
  iintro ⟨Hst, Hdn⟩
  ihave Hdn' := (Entails.of_eq ((dn0_eq m d).trans (by unfold allOf; rfl))) $$ Hdn
  icases Hdn' with ⟨Hh, Hc, -, Ho⟩
  imodintro
  isplitl [Hst]; · iexact Hst
  isplitr [Hb Hts]
  · isplitl [Hh]; · iexact Hh
    isplitl [Hc]; · iexact Hc
    isplitl [Hi]; · iexact Hi
    iexact Ho
  isplitl [Hb] <;> iassumption

/-! ## The run -/

/-- The final memory of device `d`: the arguments unchanged, the output at the result. -/
def fq (d : Dev nD) (s' : Phys nD τ sig (Elt F)) : Prop :=
  s'.mem.mem (hitsLoc d) = m (hitsLoc d) ∧ s'.mem.mem (condLoc d) = m (condLoc d) ∧ s'.mem.mem (idsLoc d) = m (idsLoc d)
    ∧ s'.mem.mem (outLoc d) = outOf m d

/-- A whole array held at `f` is `f` in the final memory. -/
theorem held_agrees (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  · iexact HSI

/-- What the host's program ends with, read in the final memory. -/
theorem hfin (d : Dev nD) (s' : Phys nD τ sig (Elt F)) : iprop(FIN m d ∗ SI s') ⊢ (⌜fq m d s'⌝ : sProp 𝕄) := by
  iintro ⟨⟨Hh, Hc, Hi, Ho⟩, HSI⟩
  ihave H := (held_agrees s' (hitsLoc d) _) $$ [HSI Hh]
  · isplitl [HSI] <;> iassumption
  icases H with ⟨%h1, HSI⟩
  ihave H := (held_agrees s' (condLoc d) _) $$ [HSI Hc]
  · isplitl [HSI] <;> iassumption
  icases H with ⟨%h2, HSI⟩
  ihave H := (held_agrees s' (idsLoc d) _) $$ [HSI Hi]
  · isplitl [HSI] <;> iassumption
  icases H with ⟨%h3, HSI⟩
  ihave H := (held_agrees s' (outLoc d) _) $$ [HSI Ho]
  · isplitl [HSI] <;> iassumption
  icases H with ⟨%h4, -⟩
  ipureintro; exact ⟨h1, h2, h3, h4⟩

/-- The end of the run: on every device the arguments unchanged and the output at the result, and every semaphore at zero. -/
def QC : PUnit × MemSt nD τ sig (Elt F) → Prop := fun r =>
  (∀ d : Dev nD, r.2.mem (hitsLoc d) = m (hitsLoc d) ∧ r.2.mem (condLoc d) = m (condLoc d) ∧ r.2.mem (idsLoc d) = m (idsLoc d)
    ∧ r.2.mem (outLoc d) = outOf m d) ∧ r.2.sem = fun _ => 0

/-- Every run of the program from ids in range ends, in `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OfKernelIdeal

end
-- ==== Proof.Lookup.lean ====
/-
  The reference's value: where every id names a row of the conditions, its guarded take is the plain row lookup. And what the
  range precondition says, word by word.
-/
module

public import proofs.«01_k».proof.Defs
public import proofs.«01_k».proof.Proof.Gen.ReferenceIdeal
public import proofs.«01_k».proof.Proof.Gen.ReferenceIdeal.Run
public import proofs.«01_k».proof.Proof.Gen.Pre_ids_in_range
public import Idealize.ShloMosaic.Lib.ReduceAll
public import Idealize.ShloMosaic.Lib.Routing.Ops
public import Idealize.ShloMosaic.Lib.ValueIdxCore

@[expose] public section

noncomputable section

namespace Cert.Proof.OfReference

open Cert.ReferenceIdeal Cert.ReferenceIdeal.Gen
open Idealize.ShloMosaic Idealize.ShloMosaic.Routing Idealize.ShloMosaic.ValueIdx

variable {F : FTy → Type} [FloatOps F]

/-- A word that is, as a signed number, at least 0 and below 2048 is below 2048. -/
theorem word_lt (v : BitVec 32) (h0 : IntOp.cmpi .sge v 0#32 = 1#1) (h1 : IntOp.cmpi .slt v 2048#32 = 1#1) : v.toNat < 2048 := by
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond,
    BitVec.toNat_ofNat, Nat.reducePow, Nat.reduceMod] at h0 h1
  omega

/-- The range precondition holds of ids only if each is below 2048. -/
theorem ids_lt (H : FVec F Cert.Pre_ids_in_range.S32768x128 .f32) (C : FVec F Cert.Pre_ids_in_range.S2048x128 .f32)
    (I : IVec Cert.Pre_ids_in_range.S32768 32) (h : Cert.Pre_ids_in_range.fn (F := F) H C I = fun _ => 1#1)
    (n : Cert.Pre_ids_in_range.S32768.Idx) : (I n).toNat < 2048 := by
  have e := congrFun h (fun a => a.elim0)
  unfold Cert.Pre_ids_in_range.fn at e
  haveI : Subsingleton Cert.Pre_ids_in_range.S_.Idx := ⟨fun a b => funext fun x => x.elim0⟩
  have e' := Host.reduce_andi_all _ _ _ _ _ e n
  obtain ⟨h0, h1⟩ := IntOp.andi_eq_one.1 e'
  exact word_lt _ h0 h1

/-- A word below 2048 is not negative, at least 0 and at most 2047 as a signed number. -/
theorem word_cmp (v : BitVec 32) (h : v.toNat < 2048) :
    IntOp.cmpi .slt v 0#32 = 0#1 ∧ IntOp.cmpi .sge v 0#32 = 1#1 ∧ IntOp.cmpi .sle v 2047#32 = 1#1 := by
  have hi : v.toInt = (v.toNat : Int) := by rw [BitVec.toInt_eq_toNat_cond]; split <;> omega
  have e1 : v.slt 0#32 = false := by rw [BitVec.slt_eq_decide, decide_eq_false_iff_not, hi]; simp
  have e2 : (0#32).sle v = true := by rw [BitVec.sle_eq_decide, decide_eq_true_eq, hi]; simp
  have e3 : v.sle 2047#32 = true := by
    rw [BitVec.sle_eq_decide, decide_eq_true_eq, hi, show (2047#32).toInt = 2047 from rfl]; omega
  simp only [IntOp.cmpi, e1, e2, e3]
  decide

/-- The ids as the take reads them: a negative one counted from the end. -/
def wrapped (I : IVec S32768 32) : IVec S32768 32 :=
  select (cmpi .slt I (broadcastInDim S32768 ![] bcast_S_S32768 (constantI S_ 32 0#32)))
    (addi I (broadcastInDim S32768 ![] bcast_S_S32768 (constantI S_ 32 2048#32))) I

/-- Ids in range are read as they are. -/
theorem wrapped_eq (I : IVec S32768 32) (hI : ∀ n, (I n).toNat < 2048) : wrapped I = I := by
  funext n
  show (if IntOp.cmpi .slt (I n) 0#32 = 1#1 then _ else I n) = I n
  rw [(word_cmp _ (hI n)).1]
  rfl

/-- The take's guard: whether each id, wrapped, names a row. -/
def guarded (I : IVec S32768 32) : IVec S32768 1 :=
  Host.reduce IntOp.andi
    (andi (cmpi .sge (broadcastInDim S32768x1 ![0] bcast_S32768_S32768x1_0 (wrapped I)) (broadcastInDim S32768x1 ![] bcast_S_S32768x1 (constantI S_ 32 0#32)))
      (cmpi .sle (broadcastInDim S32768x1 ![0] bcast_S32768_S32768x1_0 (wrapped I))
        (broadcastInDim S32768x1 ![0, 1] bcast_S1x1_S32768x1_0_1 (broadcastInDim S1x1 ![1] bcast_S1_S1x1_1 (constantI S1 32 2047#32)))))
    (constantI S_ 1 1#1) reducesTo_S32768x1_S32768_d1 h_S_

/-- Ids in range pass the guard. -/
theorem guarded_eq (I : IVec S32768 32) (hI : ∀ n, (I n).toNat < 2048) (n : S32768.Idx) : guarded I n = 1#1 := by
  unfold guarded
  rw [wrapped_eq I hI]
  refine Host.reduce_andi_one _ _ _ _ _ rfl fun i => ?_
  exact IntOp.andi_eq_one.2 ⟨(word_cmp _ (hI _)).2.1, (word_cmp _ (hI _)).2.2⟩

/-- The reference's take of the conditions at the ids, not-a-number where an id names no row. -/
def taken (C : FVec F S2048x128 .f32) (I : IVec S32768 32) : FVec F S32768x128 .f32 :=
  select (broadcastInDim S32768x128 ![0] bcast_S32768_S32768x128_0 (guarded I))
    (Host.gather gather_S2048x128_S32768x1_S32768x128_1_0_n_n_0_1_1128 C (broadcastInDim S32768x1 ![0] bcast_S32768_S32768x1_0 (wrapped I)))
    (broadcastInDim S32768x128 ![] bcast_S_S32768x128 (constant S_ .f32 0x7FC00000#32))

/-- A selection at an index whose flag is one is its first branch. -/
theorem select_one {s : Shape} {α : Type} (c : IVec s 1) (x y : s.Idx → α) (i : s.Idx) (h : c i = 1#1) : select c x y i = x i := by
  show (if c i = 1#1 then x i else y i) = x i
  rw [if_pos h]

/-- A broadcast of an array holding `v` everywhere holds `v` everywhere. -/
theorem broadcast_all {s t : Shape} {α : Type} (dims : Fin s.rank → Fin t.rank) (h : s.BroadcastsInDim t dims) (x : s.Idx → α) (v : α)
    (hx : ∀ n, x n = v) (i : t.Idx) : broadcastInDim t dims h x i = v := hx _

/-- The take at ids in range is the row lookup. -/
theorem taken_eq (C : FVec F S2048x128 .f32) (I : IVec S32768 32) (hI : ∀ n, (I n).toNat < 2048) (r : Fin 32768) (k : Fin 128) :
    taken C I (ix2 r k) = C (ix2 ⟨(I (ix1 r)).toNat, hI _⟩ k) := by
  unfold taken
  refine (select_one _ _ _ _ (broadcast_all _ _ _ _ (guarded_eq I hI) _)).trans ?_
  rw [wrapped_eq I hI]
  exact gather_row _ rfl rfl rfl rfl rfl C _ r k ⟨(I (ix1 r)).toNat, hI _⟩ (by
    rw [bcCol]
    exact (BitVec.ofNat_toNat 32 _ |>.trans (BitVec.setWidth_eq _)).symm) (by decide)

/-- The reference's value at ids in range: each row of hits minus the row of conditions its id names. -/
theorem value_eq (H : FVec F S32768x128 .f32) (C : FVec F S2048x128 .f32) (I : IVec S32768 32) (hI : ∀ n, (I n).toNat < 2048) :
    subf H (taken C I) = fun x => FloatOps.subf (φ := .f32) (H x) (C (ix2 ⟨(I (ix1 (x 0))).toNat, hI _⟩ (x 1))) := by
  funext x
  show FloatOps.subf (φ := .f32) (H x) (taken C I x) = _
  exact congrArg (FloatOps.subf (φ := .f32) (H x)) ((congrArg (taken C I) (eq_ix2 x)).trans (taken_eq C I hI (x 0) (x 1)))

end Cert.Proof.OfReference

end
-- ==== Proof.ValueIdeal.lean ====
/-
  The kernel's result and the reference's are one array: each row of hits minus the row of conditions its id names.
-/
module

public import proofs.«01_k».proof.Proof.LaunchIdeal
public import proofs.«01_k».proof.Proof.Lookup

@[expose] public section

noncomputable section

namespace Cert.Proof.OfKernelIdeal

open Cert.KernelIdeal Cert.KernelIdeal.Gen
open Idealize.ShloMosaic Idealize.ShloMosaic.Routing Idealize.ShloMosaic.ValueIdx

variable {F : FTy → Type} [FloatOps F]

/-- The id of row `n`, read from the reshaped ids, is the `n`th id. -/
theorem idAt_reshaped (I : S32768.Idx → Elt F .i32) (n : Fin 32768) :
    idAt (F := F) (shapeCast S256x128 I shapeCasts_S32768_S256x128) n.val = I (ix1 n) := by
  have hn := n.isLt
  have e : Shape.pair (d := ![256, 128]) ⟨n.val / 128 % 256, Nat.mod_lt _ (by decide)⟩ ⟨n.val % 128, Nat.mod_lt _ (by decide)⟩
      = (ix2 (⟨n.val / 128, by omega⟩ : Fin 256) (⟨n.val % 128, Nat.mod_lt _ (by decide)⟩ : Fin 128) : S256x128.Idx) :=
    idx2_ext (by show n.val / 128 % 256 = n.val / 128; omega) rfl
  unfold idAt
  rw [e]
  exact cast12 I shapeCasts_S32768_S256x128 _ _ n (by show n.val = n.val / 128 * 128 + n.val % 128; omega)

/-- The kernel's result at ids in range, as the reference states it. -/
theorem result_eq (H : S32768x128.Idx → Elt F .f32) (C : S2048x128.Idx → Elt F .f32) (I : S32768.Idx → Elt F .i32)
    (hI : ∀ n, BitVec.toNat (I n) < 2048) :
    result H C (shapeCast S256x128 I shapeCasts_S32768_S256x128)
      = fun x => FloatOps.subf (φ := .f32) (H x) (C (ix2 ⟨BitVec.toNat (I (ix1 (x 0))), hI _⟩ (x 1))) := by
  funext x
  unfold result
  rw [idAt_reshaped I (x 0)]
  refine congrArg (FloatOps.subf (φ := .f32) (H x)) (congrArg C (idx2_ext ?_ rfl))
  show BitVec.toNat (I (ix1 (x 0))) % 2048 = BitVec.toNat (I (ix1 (x 0)))
  exact Nat.mod_eq_of_lt (hI _)

end Cert.Proof.OfKernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_range
public import proofs.«01_k».proof.Proof.Launch
public import proofs.«01_k».proof.Proof.ValueIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The range precondition makes every id of the kernel's memory name a row of the conditions. -/
theorem ids_of_pre (m : (ℓ : Loc Cert.Kernel.nD Cert.Kernel.τ Cert.Kernel.sig) → Buf (Elt Bits) ℓ) (h : Cert.Pre_Kernel m) :
    OfKernel.PreOK (F := Bits) m := fun d n => OfReference.ids_lt _ _ _ (h d) n

/-- The same of the idealized kernel's memory. -/
theorem ids_of_pre_ideal (m : (ℓ : Loc Cert.KernelIdeal.nD Cert.KernelIdeal.τ Cert.KernelIdeal.sig) → Buf (Elt Ideal) ℓ)
    (h : Cert.Pre_KernelIdeal m) : OfKernelIdeal.PreOK (F := Ideal) m := fun d n => OfReference.ids_lt _ _ _ (h d) n

/-- The kernel runs, its arguments unchanged and every semaphore back at zero. -/
theorem frame_kernel : Cert.quiescent_Kernel := fun m ρ hpre =>
  (θ_run Cert.Kernel.defs _ _).mono (fun _ h => ⟨fun c => ⟨(h.1 c).1, (h.1 c).2.1, (h.1 c).2.2.1⟩, h.2⟩)
    (OfKernel.run_main (F := Bits) m ρ (ids_of_pre m hpre))

/-- The idealized kernel runs, its arguments unchanged and every semaphore back at zero. -/
theorem frame_kernel_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (OfKernelIdeal.run_main (F := Ideal) m ρ (ids_of_pre_ideal m hpre))

/-- The reference runs, its arguments unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same where the ids are in range. -/
theorem frame_reference_pre : Cert.quiescent_ReferenceIdeal_pre_ids_in_range := fun m ρ _ => frame_reference m ρ trivial

/-- From the same arguments, ids in range, the idealized kernel and the reference end with one result. -/
theorem value : Cert.algebraic_KernelIdeal_ReferenceIdeal := by
  intro m ρ m' ρ' hpre hagree
  have hids := ids_of_pre_ideal m hpre
  refine ⟨fun c => OfKernelIdeal.outOf m c, ?_, ?_⟩
  · exact (θ_run Cert.KernelIdeal.defs _ _).mono (fun _ h c => ⟨(h.1 c).2.2.2, (h.1 c).1, (h.1 c).2.1, (h.1 c).2.2.1⟩)
      (OfKernelIdeal.run_main (F := Ideal) m ρ hids)
  · refine (θ_run Cert.ReferenceIdeal.defs _ _).mono (fun _ h c => ⟨(h c).1.trans ?_, (h c).2⟩) (Cert.ReferenceIdeal.Value.run (F := Ideal) m' ρ')
    rw [(hagree c).1, (hagree c).2.1, (hagree c).2.2]
    exact (OfReference.value_eq (F := Ideal) _ _ _ (hids c)).trans (OfKernelIdeal.result_eq (F := Ideal) _ _ _ (hids c)).symm

/-- Every claim of the certificate. -/
theorem claim : Cert.Claim := ⟨Cert.Kernel.Gen.facts, Cert.KernelIdeal.Gen.facts, Cert.ReferenceIdeal.Gen.facts, Cert.Pre_ids_in_range.Gen.facts,
  frame_kernel, frame_kernel_ideal, frame_reference, frame_reference_pre, trivial, value⟩

end Cert.Proof

end
